-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv255" .f32 0x3B808081#32 ((255⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x64x256x256 : Shape := ⟨4, ![16, 64, 256, 256]⟩
abbrev S2x64x256x256 : Shape := ⟨4, ![2, 64, 256, 256]⟩
abbrev S256x256 : Shape := ⟨2, ![256, 256]⟩
abbrev S2 : Shape := ⟨1, ![2]⟩
abbrev S_ : Shape := ⟨0, ![]⟩
abbrev S1 : Shape := ⟨1, ![1]⟩
abbrev S1x64x256x256 : Shape := ⟨4, ![1, 64, 256, 256]⟩
abbrev S64x256x256 : Shape := ⟨3, ![64, 256, 256]⟩
abbrev S64x256 : Shape := ⟨2, ![64, 256]⟩
abbrev S64x16x256 : Shape := ⟨3, ![64, 16, 256]⟩
abbrev S256 : Shape := ⟨1, ![256]⟩
abbrev S1x256 : Shape := ⟨2, ![1, 256]⟩
abbrev S64x1x256 : Shape := ⟨3, ![64, 1, 256]⟩
abbrev S16x256 : Shape := ⟨2, ![16, 256]⟩
abbrev S256x16 : Shape := ⟨2, ![256, 16]⟩
abbrev S16x16 : Shape := ⟨2, ![16, 16]⟩
abbrev S16 : Shape := ⟨1, ![16]⟩
abbrev S16x1 : Shape := ⟨2, ![16, 1]⟩
abbrev S1x1 : Shape := ⟨2, ![1, 1]⟩
abbrev S1x16x256 : Shape := ⟨3, ![1, 16, 256]⟩

abbrev nBuf : Space → Nat
  | .hbm => 2
  | .vmem => 2
  | .smem => 0
  | _ => 0

abbrev bufTy : (tb : Table) → Fin (tcTables nBuf tb) → BufTy
  | .hbm, ⟨0, _⟩ => ⟨S16x64x256x256, .f32⟩
  | .hbm, ⟨1, _⟩ => ⟨S16x64x256x256, .f32⟩
  | .local _ .vmem, ⟨0, _⟩ => ⟨S2x64x256x256, .f32⟩
  | .local _ .vmem, ⟨1, _⟩ => ⟨S256x256, .f32⟩
  | _, _ => ⟨S16x64x256x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_scratch0 : Ref sig .tc := ⟨.vmem, 0, rfl⟩
abbrev cc0_scratch1 : Ref sig .tc := ⟨.vmem, 1, rfl⟩

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_1 : BitVec 32 := 0#32
  let v7 : BitVec 1 := Scalar.cmpi .ne v6 c0_i32_1
  v7

def k0_off1 (i : grid0.Coords) : Fin 1 → Nat :=
  let arg1 : BitVec 32 := BitVec.ofNat 32 (i 1).val
  let c2_i32 : BitVec 32 := 2#32
  let v2 : BitVec 32 := Scalar.remsi arg1 c2_i32
  ![v2.toNat]
def k0_off2 (i : grid0.Coords) : Fin 4 → Nat :=
  let arg1 : BitVec 32 := BitVec.ofNat 32 (i 1).val
  let c2_i32 : BitVec 32 := 2#32
  let v2 : BitVec 32 := Scalar.remsi arg1 c2_i32
  let c0_i32_77 : BitVec 32 := 0#32
  let c0_i32_78 : BitVec 32 := 0#32
  let c0_i32_79 : BitVec 32 := 0#32
  ![v2.toNat, 0, 0, 0]
def k0_off3 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_80 : BitVec 32 := 0#32
  let c0_i32_81 : BitVec 32 := 0#32
  let c0_i32_82 : BitVec 32 := 0#32
  ![v1.toNat, 0, 0, 0]
def k0_off4 (i : grid0.Coords) : Fin 1 → Nat :=
  let arg1 : BitVec 32 := BitVec.ofNat 32 (i 1).val
  let c2_i32 : BitVec 32 := 2#32
  let v2 : BitVec 32 := Scalar.remsi arg1 c2_i32
  ![v2.toNat]
def k0_off5 (i : grid0.Coords) : Fin 4 → Nat :=
  let arg1 : BitVec 32 := BitVec.ofNat 32 (i 1).val
  let c2_i32 : BitVec 32 := 2#32
  let v2 : BitVec 32 := Scalar.remsi arg1 c2_i32
  let c0_i32_2 : BitVec 32 := 0#32
  let c0_i32_3 : BitVec 32 := 0#32
  let c0_i32_4 : BitVec 32 := 0#32
  ![v2.toNat, 0, 0, 0]
def k0_off6 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_5 : BitVec 32 := 0#32
  let c0_i32_6 : BitVec 32 := 0#32
  let c0_i32_7 : BitVec 32 := 0#32
  ![v1.toNat, 0, 0, 0]
@[reducible] def k0_t1_loop : Scf.Loop 32 :=
  let c0_i32_8 : BitVec 32 := 0#32
  let c16_i32 : BitVec 32 := 16#32
  let v15 : BitVec 32 := Scalar.addi c0_i32_8 c16_i32
  let c1_i32_9 : BitVec 32 := 1#32
  ⟨c0_i32_8, v15, c1_i32_9⟩
def k0_off7 (i : grid0.Coords) : Fin 4 → Nat :=
  let arg1 : BitVec 32 := BitVec.ofNat 32 (i 1).val
  let c2_i32 : BitVec 32 := 2#32
  let v2 : BitVec 32 := Scalar.remsi arg1 c2_i32
  let c0_i32_78 : BitVec 32 := 0#32
  let c0_i32_79 : BitVec 32 := 0#32
  let c0_i32_80 : BitVec 32 := 0#32
  ![v2.toNat, 0, 0, 0]
def k0_off8 (k0_t1 : Fin k0_t1_loop.trips) : Fin 3 → Nat :=
  let c0 : Index := 0#32
  let c0_i32_8 : BitVec 32 := 0#32
  let c1_i32_9 : BitVec 32 := 1#32
  let arg8 : BitVec 32 := Scf.iv c0_i32_8 c1_i32_9 k0_t1
  let c16_i32_77 : BitVec 32 := 16#32
  let v159 : BitVec 32 := Scalar.muli arg8 c16_i32_77
  let v162 : Index := Scalar.indexCast v159
  let c0_81 : Index := 0#32
  ![0, v162.toNat, 0]
@[reducible] def k0_t2_loop : Scf.Loop 32 :=
  let c0_i32_24 : BitVec 32 := 0#32
  let c16_i32_25 : BitVec 32 := 16#32
  let v55 : BitVec 32 := Scalar.addi c0_i32_24 c16_i32_25
  let c1_i32_26 : BitVec 32 := 1#32
  ⟨c0_i32_24, v55, c1_i32_26⟩
def k0_off9 (i : grid0.Coords) : Fin 4 → Nat :=
  let arg1 : BitVec 32 := BitVec.ofNat 32 (i 1).val
  let c2_i32 : BitVec 32 := 2#32
  let v2 : BitVec 32 := Scalar.remsi arg1 c2_i32
  let c0_i32_78 : BitVec 32 := 0#32
  let c0_i32_79 : BitVec 32 := 0#32
  let c0_i32_80 : BitVec 32 := 0#32
  ![v2.toNat, 0, 0, 0]
def k0_off10 (k0_t2 : Fin k0_t2_loop.trips) : Fin 3 → Nat :=
  let c0 : Index := 0#32
  let c0_i32_24 : BitVec 32 := 0#32
  let c1_i32_26 : BitVec 32 := 1#32
  let arg8 : BitVec 32 := Scf.iv c0_i32_24 c1_i32_26 k0_t2
  let c16_i32_77 : BitVec 32 := 16#32
  let v159 : BitVec 32 := Scalar.muli arg8 c16_i32_77
  let v162 : Index := Scalar.indexCast v159
  let c0_81 : Index := 0#32
  ![0, v162.toNat, 0]
def k0_off11 (k0_t2 : Fin k0_t2_loop.trips) : Fin 2 → Nat :=
  let c0_i32_24 : BitVec 32 := 0#32
  let c1_i32_26 : BitVec 32 := 1#32
  let arg8 : BitVec 32 := Scf.iv c0_i32_24 c1_i32_26 k0_t2
  let c16_i32_77 : BitVec 32 := 16#32
  let v159 : BitVec 32 := Scalar.muli arg8 c16_i32_77
  let v182 : Index := Scalar.indexCast v159
  let c0_86 : Index := 0#32
  ![v182.toNat, 0]
def k0_cond2 (i : grid0.Coords) : BitVec 1 :=
  let arg1 : BitVec 32 := BitVec.ofNat 32 (i 1).val
  let c0_i32_28 : BitVec 32 := 0#32
  let v57 : BitVec 1 := Scalar.cmpi .sgt arg1 c0_i32_28
  let v58 : BitVec 32 := Scalar.extui v57
  let c0_i32_29 : BitVec 32 := 0#32
  let v59 : BitVec 1 := Scalar.cmpi .ne v58 c0_i32_29
  v59

def k0_off12 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_77 : BitVec 32 := 1#32
  let v159 : BitVec 32 := Scalar.subi v1 c1_i32_77
  let c0_i32_78 : BitVec 32 := 0#32
  let c0_i32_79 : BitVec 32 := 0#32
  let c0_i32_80 : BitVec 32 := 0#32
  ![v159.toNat, 0, 0, 0]
def k0_off13 (i : grid0.Coords) : Fin 4 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c0_i32_81 : BitVec 32 := 0#32
  let c0_i32_82 : BitVec 32 := 0#32
  let c0_i32_83 : BitVec 32 := 0#32
  ![v4.toNat, 0, 0, 0]
def k0_cond3 (i : grid0.Coords) : BitVec 1 :=
  let arg1 : BitVec 32 := BitVec.ofNat 32 (i 1).val
  let c7_i32 : BitVec 32 := 7#32
  let v60 : BitVec 1 := Scalar.cmpi .slt arg1 c7_i32
  let v61 : BitVec 32 := Scalar.extui v60
  let c0_i32_30 : BitVec 32 := 0#32
  let v62 : BitVec 1 := Scalar.cmpi .ne v61 c0_i32_30
  v62

def k0_off14 (i : grid0.Coords) : Fin 1 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  ![v4.toNat]
def k0_off15 (i : grid0.Coords) : Fin 4 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c0_i32_78 : BitVec 32 := 0#32
  let c0_i32_79 : BitVec 32 := 0#32
  let c0_i32_80 : BitVec 32 := 0#32
  ![v4.toNat, 0, 0, 0]
def k0_off16 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_77 : BitVec 32 := 1#32
  let v159 : BitVec 32 := Scalar.addi v1 c1_i32_77
  let c0_i32_81 : BitVec 32 := 0#32
  let c0_i32_82 : BitVec 32 := 0#32
  let c0_i32_83 : BitVec 32 := 0#32
  ![v159.toNat, 0, 0, 0]
@[reducible] def k0_t3_loop : Scf.Loop 32 :=
  let c0_i32_65 : BitVec 32 := 0#32
  let c16_i32_66 : BitVec 32 := 16#32
  let v151 : BitVec 32 := Scalar.addi c0_i32_65 c16_i32_66
  let c1_i32_67 : BitVec 32 := 1#32
  ⟨c0_i32_65, v151, c1_i32_67⟩
def k0_off17 (k0_t3 : Fin k0_t3_loop.trips) : Fin 2 → Nat :=
  let c0_i32_65 : BitVec 32 := 0#32
  let c1_i32_67 : BitVec 32 := 1#32
  let arg8 : BitVec 32 := Scf.iv c0_i32_65 c1_i32_67 k0_t3
  let c16_i32_77 : BitVec 32 := 16#32
  let v159 : BitVec 32 := Scalar.muli arg8 c16_i32_77
  let v160 : Index := Scalar.indexCast v159
  let c0 : Index := 0#32
  ![v160.toNat, 0]
def k0_off18 (i : grid0.Coords) : Fin 4 → Nat :=
  let arg1 : BitVec 32 := BitVec.ofNat 32 (i 1).val
  let c2_i32 : BitVec 32 := 2#32
  let v2 : BitVec 32 := Scalar.remsi arg1 c2_i32
  let c0_i32_84 : BitVec 32 := 0#32
  let c0_i32_85 : BitVec 32 := 0#32
  let c0_i32_86 : BitVec 32 := 0#32
  ![v2.toNat, 0, 0, 0]
def k0_off19 (k0_t3 : Fin k0_t3_loop.trips) : Fin 3 → Nat :=
  let c0_87 : Index := 0#32
  let c0_i32_65 : BitVec 32 := 0#32
  let c1_i32_67 : BitVec 32 := 1#32
  let arg8 : BitVec 32 := Scf.iv c0_i32_65 c1_i32_67 k0_t3
  let c16_i32_77 : BitVec 32 := 16#32
  let v159 : BitVec 32 := Scalar.muli arg8 c16_i32_77
  let v214 : Index := Scalar.indexCast v159
  let c0_88 : Index := 0#32
  ![0, v214.toNat, 0]
def k0_cond4 (i : grid0.Coords) : BitVec 1 :=
  let arg1 : BitVec 32 := BitVec.ofNat 32 (i 1).val
  let c7_i32_75 : BitVec 32 := 7#32
  let v156 : BitVec 1 := Scalar.cmpi .eq arg1 c7_i32_75
  let v157 : BitVec 32 := Scalar.extui v156
  let c0_i32_76 : BitVec 32 := 0#32
  let v158 : BitVec 1 := Scalar.cmpi .ne v157 c0_i32_76
  v158

def k0_off20 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_77 : BitVec 32 := 0#32
  let c0_i32_78 : BitVec 32 := 0#32
  let c0_i32_79 : BitVec 32 := 0#32
  ![v1.toNat, 0, 0, 0]
def k0_off21 (i : grid0.Coords) : Fin 4 → Nat :=
  let arg1 : BitVec 32 := BitVec.ofNat 32 (i 1).val
  let c2_i32 : BitVec 32 := 2#32
  let v2 : BitVec 32 := Scalar.remsi arg1 c2_i32
  let c0_i32_80 : BitVec 32 := 0#32
  let c0_i32_81 : BitVec 32 := 0#32
  let c0_i32_82 : BitVec 32 := 0#32
  ![v2.toNat, 0, 0, 0]
-- ==== KernelIdeal.lean ====
variable {F : FTy → Type} [FloatOps F] [Named F]
def κ : String → Option EReal := fun
  | "inv255" => some ((255⁻¹ : ℝ) : EReal)
  | _ => none
-- ==== ReferenceIdeal.lean ====
abbrev S16x64x256x256 : Shape := ⟨4, ![16, 64, 256, 256]⟩
abbrev S_ : Shape := ⟨0, ![]⟩
abbrev S16x64 : Shape := ⟨2, ![16, 64]⟩
abbrev S16x64x1x1 : Shape := ⟨4, ![16, 64, 1, 1]⟩
abbrev S16x1x1 : Shape := ⟨3, ![16, 1, 1]⟩
abbrev S16x1x1x1 : Shape := ⟨4, ![16, 1, 1, 1]⟩
abbrev S16x256x256 : Shape := ⟨3, ![16, 256, 256]⟩
abbrev S16x1x256x256 : Shape := ⟨4, ![16, 1, 256, 256]⟩
abbrev S16x65536 : Shape := ⟨2, ![16, 65536]⟩
abbrev S16 : Shape := ⟨1, ![16]⟩
abbrev S16x1 : Shape := ⟨2, ![16, 1]⟩
abbrev S1048576 : Shape := ⟨1, ![1048576]⟩
abbrev S4096 : Shape := ⟨1, ![4096]⟩
abbrev S1048576x1 : Shape := ⟨2, ![1048576, 1]⟩
abbrev S16x256 : Shape := ⟨2, ![16, 256]⟩
abbrev S16x65536x1 : Shape := ⟨3, ![16, 65536, 1]⟩
abbrev S1 : Shape := ⟨1, ![1]⟩
abbrev S1x1x1 : Shape := ⟨3, ![1, 1, 1]⟩

abbrev nBuf : Space → Nat
  | .hbm => 145
  | .vmem => 0
  | .smem => 0
  | _ => 0

abbrev hbmTy0_0 (i : Nat) : BufTy := match i % 128 with
  | 0 => ⟨S16x64x256x256, .f32⟩
  | 1 => ⟨S_, .f32⟩
  | 2 => ⟨S16x64, .f32⟩
  | 3 => ⟨S16x64x1x1, .f32⟩
  | 4 => ⟨S_, .f32⟩
  | 5 => ⟨S16x64x1x1, .f32⟩
  | 6 => ⟨S16x64x1x1, .f32⟩
  | 7 => ⟨S16x64x1x1, .f32⟩
  | 8 => ⟨S_, .f32⟩
  | 9 => ⟨S16x1x1, .f32⟩
  | 10 => ⟨S16x1x1x1, .f32⟩
  | 11 => ⟨S16x1x1x1, .f32⟩
  | 12 => ⟨S_, .f32⟩
  | 13 => ⟨S16x1x1x1, .f32⟩
  | 14 => ⟨S16x1x1x1, .f32⟩
  | 15 => ⟨S16x64x1x1, .f32⟩
  | 16 => ⟨S16x64x1x1, .f32⟩
  | 17 => ⟨S16x64x256x256, .f32⟩
  | 18 => ⟨S_, .f32⟩
  | 19 => ⟨S16x256x256, .f32⟩
  | 20 => ⟨S16x1x256x256, .f32⟩
  | 21 => ⟨S16x1x256x256, .f32⟩
  | 22 => ⟨S_, .f32⟩
  | 23 => ⟨S16x1x256x256, .f32⟩
  | 24 => ⟨S16x1x256x256, .f32⟩
  | 25 => ⟨S16x64x256x256, .f32⟩
  | 26 => ⟨S16x64x256x256, .f32⟩
  | 27 => ⟨S16x64x256x256, .f32⟩
  | 28 => ⟨S16x64x256x256, .f32⟩
  | 29 => ⟨S_, .f32⟩
  | 30 => ⟨S16x256x256, .f32⟩
  | 31 => ⟨S_, .f32⟩
  | 32 => ⟨S16x256x256, .f32⟩
  | 33 => ⟨S16x256x256, .f32⟩
  | 34 => ⟨S_, .f32⟩
  | 35 => ⟨S16x256x256, .f32⟩
  | 36 => ⟨S16x256x256, .i1⟩
  | 37 => ⟨S16x256x256, .f32⟩
  | 38 => ⟨S16x256x256, .f32⟩
  | 39 => ⟨S16x256x256, .f32⟩
  | 40 => ⟨S16x256x256, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S16x256x256, .i32⟩
  | 48 => ⟨S16x256x256, .i32⟩
  | 49 => ⟨S_, .i32⟩
  | 50 => ⟨S16x256x256, .i32⟩
  | 51 => ⟨S16x256x256, .i1⟩
  | 52 => ⟨S_, .i32⟩
  | 53 => ⟨S16x256x256, .i32⟩
  | 54 => ⟨S16x256x256, .i1⟩
  | 55 => ⟨S_, .i32⟩
  | 56 => ⟨S_, .i1⟩
  | 57 => ⟨S16x256x256, .i1⟩
  | 58 => ⟨S16x256x256, .i1⟩
  | 59 => ⟨S16x256x256, .i1⟩
  | 60 => ⟨S16x256x256, .i32⟩
  | 61 => ⟨S16x256x256, .i32⟩
  | 62 => ⟨S16x256x256, .i32⟩
  | 63 => ⟨S16x65536, .i32⟩
  | 64 => ⟨S16, .i32⟩
  | 65 => ⟨S16x1, .i32⟩
  | 66 => ⟨S_, .i32⟩
  | 67 => ⟨S16x1, .i32⟩
  | 68 => ⟨S16x1, .i32⟩
  | 69 => ⟨S16x65536, .i32⟩
  | 70 => ⟨S16x65536, .i32⟩
  | 71 => ⟨S1048576, .i32⟩
  | 72 => ⟨S_, .f32⟩
  | 73 => ⟨S1048576, .f32⟩
  | 74 => ⟨S_, .f32⟩
  | 75 => ⟨S4096, .f32⟩
  | 76 => ⟨S1048576x1, .i32⟩
  | 77 => ⟨S4096, .f32⟩
  | 78 => ⟨S16x256, .f32⟩
  | 79 => ⟨S_, .f32⟩
  | 80 => ⟨S_, .f32⟩
  | 81 => ⟨S16x256, .f32⟩
  | 82 => ⟨S_, .f32⟩
  | 83 => ⟨S16x256, .f32⟩
  | 84 => ⟨S16x256, .i1⟩
  | 85 => ⟨S_, .f32⟩
  | 86 => ⟨S_, .f32⟩
  | 87 => ⟨S_, .f32⟩
  | 88 => ⟨S16x256, .f32⟩
  | 89 => ⟨S16x256, .f32⟩
  | 90 => ⟨S_, .f32⟩
  | 91 => ⟨S16, .f32⟩
  | 92 => ⟨S_, .f32⟩
  | 93 => ⟨S16, .f32⟩
  | 94 => ⟨S16, .f32⟩
  | 95 => ⟨S_, .f32⟩
  | 96 => ⟨S16, .f32⟩
  | 97 => ⟨S16, .f32⟩
  | 98 => ⟨S16x1, .f32⟩
  | 99 => ⟨S16x256, .f32⟩
  | 100 => ⟨S16x256, .f32⟩
  | 101 => ⟨S16x1, .f32⟩
  | 102 => ⟨S_, .f32⟩
  | 103 => ⟨S16x1, .f32⟩
  | 104 => ⟨S16x1, .f32⟩
  | 105 => ⟨S16x256, .f32⟩
  | 106 => ⟨S16x256, .f32⟩
  | 107 => ⟨S16x256, .f32⟩
  | 108 => ⟨S_, .f32⟩
  | 109 => ⟨S_, .f32⟩
  | 110 => ⟨S_, .f32⟩
  | 111 => ⟨S16x256, .f32⟩
  | 112 => ⟨S16x256, .f32⟩
  | 113 => ⟨S_, .f32⟩
  | 114 => ⟨S16x256, .f32⟩
  | 115 => ⟨S16x256, .f32⟩
  | 116 => ⟨S_, .i32⟩
  | 117 => ⟨S16x65536, .i32⟩
  | 118 => ⟨S16x65536, .i1⟩
  | 119 => ⟨S_, .i32⟩
  | 120 => ⟨S16x65536, .i32⟩
  | 121 => ⟨S16x65536, .i32⟩
  | 122 => ⟨S16x65536, .i32⟩
  | 123 => ⟨S16x65536x1, .i32⟩
  | 124 => ⟨S1, .i32⟩
  | 125 => ⟨S_, .i32⟩
  | 126 => ⟨S16x65536x1, .i32⟩
  | 127 => ⟨S16x65536x1, .i1⟩
  | _ => ⟨S16x64x256x256, .f32⟩

abbrev hbmTy0_1 (i : Nat) : BufTy := match i % 128 with
  | 0 => ⟨S1x1x1, .i32⟩
  | 1 => ⟨S16x65536x1, .i32⟩
  | 2 => ⟨S16x65536x1, .i1⟩
  | 3 => ⟨S16x65536x1, .i1⟩
  | 4 => ⟨S_, .i1⟩
  | 5 => ⟨S16x65536, .i1⟩
  | 6 => ⟨S16x65536, .f32⟩
  | 7 => ⟨S_, .f32⟩
  | 8 => ⟨S16x65536, .f32⟩
  | 9 => ⟨S16x65536, .f32⟩
  | 10 => ⟨S16x256x256, .f32⟩
  | 11 => ⟨S_, .f32⟩
  | 12 => ⟨S16x256x256, .f32⟩
  | 13 => ⟨S16x256x256, .f32⟩
  | 14 => ⟨S16x1x256x256, .f32⟩
  | 15 => ⟨S16x64x256x256, .f32⟩
  | 16 => ⟨S16x64x256x256, .f32⟩
  | _ => ⟨S16x64x256x256, .f32⟩

abbrev hbmTy (i : Nat) : BufTy := match i / 128 with
  | 0 => hbmTy0_0 i
  | 1 => hbmTy0_1 i
  | _ => ⟨S16x64x256x256, .f32⟩

abbrev bufTy : (tb : Table) → Fin (tcTables nBuf tb) → BufTy
  | .hbm, ⟨i, _⟩ => hbmTy i
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_4 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_5 : Ref sig .tc := ⟨.hbm, 29, rfl⟩
abbrev main_v22 : Ref sig .tc := ⟨.hbm, 30, rfl⟩
abbrev main_cst_6 : Ref sig .tc := ⟨.hbm, 31, rfl⟩
abbrev main_v23 : Ref sig .tc := ⟨.hbm, 32, rfl⟩
abbrev main_v24 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_v25 : Ref sig .tc := ⟨.hbm, 39, rfl⟩
abbrev main_v26 : Ref sig .tc := ⟨.hbm, 40, rfl⟩
abbrev main_c : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_c_7 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_8 : Ref sig .tc := ⟨.hbm, 72, rfl⟩
abbrev main_v36 : Ref sig .tc := ⟨.hbm, 73, rfl⟩
abbrev main_cst_9 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_call2_call0_cst : Ref sig .tc := ⟨.hbm, 79, rfl⟩
abbrev main_call2_call0_v0 : Ref sig .tc := ⟨.hbm, 80, rfl⟩
abbrev main_v41 : Ref sig .tc := ⟨.hbm, 81, rfl⟩
abbrev main_cst_10 : Ref sig .tc := ⟨.hbm, 82, rfl⟩
abbrev main_v42 : Ref sig .tc := ⟨.hbm, 83, rfl⟩
abbrev main_v43 : Ref sig .tc := ⟨.hbm, 84, rfl⟩
abbrev main_cst_11 : Ref sig .tc := ⟨.hbm, 85, rfl⟩
abbrev main_cst_12 : Ref sig .tc := ⟨.hbm, 86, rfl⟩
abbrev main_v44 : Ref sig .tc := ⟨.hbm, 87, rfl⟩
abbrev main_call3_v0 : Ref sig .tc := ⟨.hbm, 88, rfl⟩
abbrev main_v45 : Ref sig .tc := ⟨.hbm, 89, rfl⟩
abbrev main_cst_13 : Ref sig .tc := ⟨.hbm, 90, rfl⟩
abbrev main_v46 : Ref sig .tc := ⟨.hbm, 91, rfl⟩
abbrev main_cst_14 : Ref sig .tc := ⟨.hbm, 92, rfl⟩
abbrev main_v47 : Ref sig .tc := ⟨.hbm, 93, rfl⟩
abbrev main_v48 : Ref sig .tc := ⟨.hbm, 94, rfl⟩
abbrev main_cst_15 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_16 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_cst_17 : Ref sig .tc := ⟨.hbm, 108, rfl⟩
abbrev main_cst_18 : Ref sig .tc := ⟨.hbm, 109, rfl⟩
abbrev main_call5_v0 : Ref sig .tc := ⟨.hbm, 110, rfl⟩
abbrev main_call5_v1 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_v60 : Ref sig .tc := ⟨.hbm, 115, rfl⟩
abbrev main_call6_c : Ref sig .tc := ⟨.hbm, 116, rfl⟩
abbrev main_call6_v0 : Ref sig .tc := ⟨.hbm, 117, rfl⟩
abbrev main_call6_v1 : Ref sig .tc := ⟨.hbm, 118, rfl⟩
abbrev main_call6_c_0 : Ref sig .tc := ⟨.hbm, 119, rfl⟩
abbrev main_call6_v2 : Ref sig .tc := ⟨.hbm, 120, rfl⟩
abbrev main_call6_v3 : Ref sig .tc := ⟨.hbm, 121, rfl⟩
abbrev main_call6_v4 : Ref sig .tc := ⟨.hbm, 122, rfl⟩
abbrev main_call6_v5 : Ref sig .tc := ⟨.hbm, 123, rfl⟩
abbrev main_call6_c_1 : Ref sig .tc := ⟨.hbm, 124, rfl⟩
abbrev main_call6_c_2 : Ref sig .tc := ⟨.hbm, 125, rfl⟩
abbrev main_call6_v6 : Ref sig .tc := ⟨.hbm, 126, rfl⟩
abbrev main_call6_v7 : Ref sig .tc := ⟨.hbm, 127, rfl⟩
abbrev main_call6_v8 : Ref sig .tc := ⟨.hbm, 128, rfl⟩
abbrev main_call6_v9 : Ref sig .tc := ⟨.hbm, 129, rfl⟩
abbrev main_call6_v10 : Ref sig .tc := ⟨.hbm, 130, rfl⟩
abbrev main_call6_v11 : Ref sig .tc := ⟨.hbm, 131, rfl⟩
abbrev main_call6_c_3 : Ref sig .tc := ⟨.hbm, 132, rfl⟩
abbrev main_call6_v12 : Ref sig .tc := ⟨.hbm, 133, rfl⟩
abbrev main_call6_v13 : Ref sig .tc := ⟨.hbm, 134, rfl⟩
abbrev main_call6_cst : Ref sig .tc := ⟨.hbm, 135, rfl⟩
abbrev main_call6_v14 : Ref sig .tc := ⟨.hbm, 136, rfl⟩
abbrev main_v61 : Ref sig .tc := ⟨.hbm, 137, rfl⟩
abbrev main_v62 : Ref sig .tc := ⟨.hbm, 138, rfl⟩
abbrev main_cst_19 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩

abbrev nD : Nat := 1
abbrev τ : Topo := Topo.v7x

variable {F : FTy → Type} [FloatOps F]
-- ==== Proof.IdealNames.lean ====
/-
  The pieces the kernel's transfers move, by name: block `b` of the argument and of the result, slot `s` of the
  two-slot image buffer, the slot's semaphore. Every slice the body takes is one of these, at numbers read off
  the grid coordinates.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Whole buffers -/

/-- The argument array. -/
abbrev inM : Memref sig .tc .hbm S16x64x256x256 .f32 := Memref.whole main_arg0
/-- The result array. -/
abbrev outM : Memref sig .tc .hbm S16x64x256x256 .f32 := Memref.whole main_v0
/-- The two-slot image buffer. -/
abbrev bufM : Memref sig .tc .vmem S2x64x256x256 .f32 := Memref.whole cc0_scratch0
/-- The bin-number buffer. -/
abbrev qM : Memref sig .tc .vmem S256x256 .f32 := Memref.whole cc0_scratch1

/-! ## Blocks, slots, cells -/

abbrev blkOff (b : Fin 16) : Fin 4 → Nat := ![b.val, 0, 0, 0]
theorem blkOff_inb (b : Fin 16) : ∀ a, blkOff b a + S1x64x256x256.size a ≤ S16x64x256x256.size a := by
  have := b.isLt; intro a; fin_cases a
  · show b.val + 1 ≤ 16; omega
  · show 0 + 64 ≤ 64; omega
  · show 0 + 256 ≤ 256; omega
  · show 0 + 256 ≤ 256; omega
abbrev slotOff (s : Fin 2) : Fin 4 → Nat := ![s.val, 0, 0, 0]
theorem slotOff_inb (s : Fin 2) : ∀ a, slotOff s a + S1x64x256x256.size a ≤ S2x64x256x256.size a := by
  have := s.isLt; intro a; fin_cases a
  · show s.val + 1 ≤ 2; omega
  · show 0 + 64 ≤ 64; omega
  · show 0 + 256 ≤ 256; omega
  · show 0 + 256 ≤ 256; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Block `b` of the argument, as the body slices and squeezes it. -/
def inb (b : Fin 16) : Memref sig .tc .hbm S64x256x256 .f32 :=
  (inM.slice (Rect.unit (s := S16x64x256x256) (blkOff b) S1x64x256x256.size (blkOff_inb b)) (fun _ => rfl)).squeeze S64x256x256 squeezes_S1x64x256x256_S64x256x256
/-- Block `b` of the result. -/
def outb (b : Fin 16) : Memref sig .tc .hbm S64x256x256 .f32 :=
  (outM.slice (Rect.unit (s := S16x64x256x256) (blkOff b) S1x64x256x256.size (blkOff_inb b)) (fun _ => rfl)).squeeze S64x256x256 squeezes_S1x64x256x256_S64x256x256
/-- Slot `s` of the image buffer. -/
def rslot (s : Fin 2) : Memref sig .tc .vmem S64x256x256 .f32 :=
  (bufM.slice (Rect.unit (s := S2x64x256x256) (slotOff s) S1x64x256x256.size (slotOff_inb s)) (fun _ => rfl)).squeeze S64x256x256 squeezes_S1x64x256x256_S64x256x256
/-- Slot `s`'s semaphore. -/
def csm (s : Fin 2) : DmaSems sig S_ := (cc0_scratch2.slice (Rect.unit (s := S2) (semOff s) S1.size (semOff_inb s))).squeeze S_ squeezes_S1_S_

instance (s : Fin 2) : ClosedOff (slotOff s) := ⟨slotOff s, rfl⟩
instance (b : Fin 16) : ClosedOff (blkOff b) := ⟨blkOff b, rfl⟩

/-! ## The numbers at a grid point -/

/-- The point's image. -/
def bCur (i : grid0.Coords) : Fin 16 := ⟨8 * (i 0).val + (i 1).val, by
  have h0 : (i 0).val < 2 := (i 0).isLt
  have h1 : (i 1).val < 8 := (i 1).isLt
  omega⟩
/-- The image before. -/
def bPrev (i : grid0.Coords) : Fin 16 := ⟨8 * (i 0).val + (i 1).val - 1, by
  have h0 : (i 0).val < 2 := (i 0).isLt
  have h1 : (i 1).val < 8 := (i 1).isLt
  omega⟩
/-- The image after (the first one past the last). -/
def bNext (i : grid0.Coords) : Fin 16 := ⟨(8 * (i 0).val + (i 1).val + 1) % 16, Nat.mod_lt _ (by decide)⟩
/-- The slot the point works in. -/
def sCur (i : grid0.Coords) : Fin 2 := ⟨(i 1).val % 2, Nat.mod_lt _ (by decide)⟩
/-- The other slot. -/
def sNxt (i : grid0.Coords) : Fin 2 := ⟨((i 1).val + 1) % 2, Nat.mod_lt _ (by decide)⟩

theorem off12_blk : ∀ i : grid0.Coords, k0_cond2 i = 1#1 → k0_off12 i = blkOff (bPrev i) := by decide +kernel
theorem off16_blk : ∀ i : grid0.Coords, k0_cond3 i = 1#1 → k0_off16 i = blkOff (bNext i) := by decide +kernel
instance (i : grid0.Coords) : ClosedOff (slotOff (sCur i)) := ⟨_, rfl⟩

/-! ## The body's slices are these -/

theorem csm_congr {off : Fin 1 → Nat} {s : Fin 2} (e : off = semOff s) (hh) :
    (cc0_scratch2.slice (Rect.unit (s := S2) off S1.size hh)).squeeze S_ squeezes_S1_S_ = csm s :=
  congrArg (fun A : DmaSems sig S1 => A.squeeze S_ squeezes_S1_S_) (SemArray.slice_unit_congr _ e _ _)
theorem rslot_congr {off : Fin 4 → Nat} {s : Fin 2} (e : off = slotOff s) (hh hs) :
    (bufM.slice (Rect.unit (s := S2x64x256x256) off S1x64x256x256.size hh) hs).squeeze S64x256x256 squeezes_S1x64x256x256_S64x256x256 = rslot s :=
  congrArg (fun M : Memref sig .tc .vmem S1x64x256x256 .f32 => M.squeeze S64x256x256 squeezes_S1x64x256x256_S64x256x256) (Memref.slice_unit_congr _ e _ _ _ _)
theorem inb_congr {off : Fin 4 → Nat} {b : Fin 16} (e : off = blkOff b) (hh hs) :
    (inM.slice (Rect.unit (s := S16x64x256x256) off S1x64x256x256.size hh) hs).squeeze S64x256x256 squeezes_S1x64x256x256_S64x256x256 = inb b :=
  congrArg (fun M : Memref sig .tc .hbm S1x64x256x256 .f32 => M.squeeze S64x256x256 squeezes_S1x64x256x256_S64x256x256) (Memref.slice_unit_congr _ e _ _ _ _)
theorem outb_congr {off : Fin 4 → Nat} {b : Fin 16} (e : off = blkOff b) (hh hs) :
    (outM.slice (Rect.unit (s := S16x64x256x256) off S1x64x256x256.size hh) hs).squeeze S64x256x256 squeezes_S1x64x256x256_S64x256x256 = outb b :=
  congrArg (fun M : Memref sig .tc .hbm S1x64x256x256 .f32 => M.squeeze S64x256x256 squeezes_S1x64x256x256_S64x256x256) (Memref.slice_unit_congr _ e _ _ _ _)

section Canon
variable (i : grid0.Coords)

@[sl_canon] theorem sem_off1 (hh) : (cc0_scratch2.slice (Rect.unit (s := S2) (k0_off1 i) S1.size hh)).squeeze S_ squeezes_S1_S_ = csm (sCur i) := csm_congr (k0_off1_eq i) _
@[sl_canon] theorem sem_off4 (hh) : (cc0_scratch2.slice (Rect.unit (s := S2) (k0_off4 i) S1.size hh)).squeeze S_ squeezes_S1_S_ = csm (sCur i) := csm_congr (k0_off4_eq i) _
@[sl_canon] theorem sem_off14 (hh) : (cc0_scratch2.slice (Rect.unit (s := S2) (k0_off14 i) S1.size hh)).squeeze S_ squeezes_S1_S_ = csm (sNxt i) := csm_congr (k0_off14_eq i) _
@[sl_canon] theorem slot_off2 (hh hs) : (bufM.slice (Rect.unit (s := S2x64x256x256) (k0_off2 i) S1x64x256x256.size hh) hs).squeeze S64x256x256 squeezes_S1x64x256x256_S64x256x256 = rslot (sCur i) := rslot_congr (k0_off2_eq i) _ _
@[sl_canon] theorem slot_off5 (hh hs) : (bufM.slice (Rect.unit (s := S2x64x256x256) (k0_off5 i) S1x64x256x256.size hh) hs).squeeze S64x256x256 squeezes_S1x64x256x256_S64x256x256 = rslot (sCur i) := rslot_congr (k0_off5_eq i) _ _
@[sl_canon] theorem slot_off7 (hh hs) : (bufM.slice (Rect.unit (s := S2x64x256x256) (k0_off7 i) S1x64x256x256.size hh) hs).squeeze S64x256x256 squeezes_S1x64x256x256_S64x256x256 = rslot (sCur i) := rslot_congr (k0_off7_eq i) _ _
@[sl_canon] theorem slot_off9 (hh hs) : (bufM.slice (Rect.unit (s := S2x64x256x256) (k0_off9 i) S1x64x256x256.size hh) hs).squeeze S64x256x256 squeezes_S1x64x256x256_S64x256x256 = rslot (sCur i) := rslot_congr (k0_off9_eq i) _ _
@[sl_canon] theorem slot_off13 (hh hs) : (bufM.slice (Rect.unit (s := S2x64x256x256) (k0_off13 i) S1x64x256x256.size hh) hs).squeeze S64x256x256 squeezes_S1x64x256x256_S64x256x256 = rslot (sNxt i) := rslot_congr (k0_off13_eq i) _ _
@[sl_canon] theorem slot_off15 (hh hs) : (bufM.slice (Rect.unit (s := S2x64x256x256) (k0_off15 i) S1x64x256x256.size hh) hs).squeeze S64x256x256 squeezes_S1x64x256x256_S64x256x256 = rslot (sNxt i) := rslot_congr (k0_off15_eq i) _ _
@[sl_canon] theorem slot_off18 (hh hs) : (bufM.slice (Rect.unit (s := S2x64x256x256) (k0_off18 i) S1x64x256x256.size hh) hs).squeeze S64x256x256 squeezes_S1x64x256x256_S64x256x256 = rslot (sCur i) := rslot_congr (k0_off18_eq i) _ _
@[sl_canon] theorem slot_off21 (hh hs) : (bufM.slice (Rect.unit (s := S2x64x256x256) (k0_off21 i) S1x64x256x256.size hh) hs).squeeze S64x256x256 squeezes_S1x64x256x256_S64x256x256 = rslot (sCur i) := rslot_congr (k0_off21_eq i) _ _
@[sl_canon] theorem in_off3 (hh hs) : (inM.slice (Rect.unit (s := S16x64x256x256) (k0_off3 i) S1x64x256x256.size hh) hs).squeeze S64x256x256 squeezes_S1x64x256x256_S64x256x256 = inb (bCur i) := inb_congr (k0_off3_eq i) _ _
@[sl_canon] theorem in_off6 (hh hs) : (inM.slice (Rect.unit (s := S16x64x256x256) (k0_off6 i) S1x64x256x256.size hh) hs).squeeze S64x256x256 squeezes_S1x64x256x256_S64x256x256 = inb (bCur i) := inb_congr (k0_off6_eq i) _ _
@[sl_canon] theorem in_off16 (h3 : k0_cond3 i = 1#1) (hh hs) : (inM.slice (Rect.unit (s := S16x64x256x256) (k0_off16 i) S1x64x256x256.size hh) hs).squeeze S64x256x256 squeezes_S1x64x256x256_S64x256x256 = inb (bNext i) := inb_congr (off16_blk i h3) _ _
@[sl_canon] theorem out_off6 (hh hs) : (outM.slice (Rect.unit (s := S16x64x256x256) (k0_off6 i) S1x64x256x256.size hh) hs).squeeze S64x256x256 squeezes_S1x64x256x256_S64x256x256 = outb (bCur i) := outb_congr (k0_off6_eq i) _ _
@[sl_canon] theorem out_off12 (h2 : k0_cond2 i = 1#1) (hh hs) : (outM.slice (Rect.unit (s := S16x64x256x256) (k0_off12 i) S1x64x256x256.size hh) hs).squeeze S64x256x256 squeezes_S1x64x256x256_S64x256x256 = outb (bPrev i) := outb_congr (off12_blk i h2) _ _
@[sl_canon] theorem out_off20 (hh hs) : (outM.slice (Rect.unit (s := S16x64x256x256) (k0_off20 i) S1x64x256x256.size hh) hs).squeeze S64x256x256 squeezes_S1x64x256x256_S64x256x256 = outb (bCur i) := outb_congr (k0_off20_eq i) _ _

end Canon

end Cert.KernelIdeal.Hand

end
-- ==== Proof.IdealLoops.lean ====
/-
  The three loops of a grid point, each by what its trips leave: the running channel sums, the running joint
  counts with the bin numbers stored beside them, and the image scaled in place chunk by chunk.
-/
module

public import proofs.«01_k».proof.Proof.IdealNames
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resource algebra: the pipeline library's beside the counters the body's own transfers ride on. -/
abbrev UU (nD : Nat) (τ : Topo) : Type := UR sig nD τ × Counters
local notation "𝕄" => MT nD τ sig Unit (Elt F) ℕ (UU nD τ) ℕ
abbrev 𝒱₀ : Variants := Variants.none

/-! ## What the trips compute -/

/-- Rows `16k … 16k+15` of an image. -/
abbrev ldx (x : S64x256x256.Idx → F .f32) (k : Fin 16) : FVec F S64x16x256 .f32 :=
  VecWindow.window x ![0, 16 * k.val, 0] S64x16x256.size (by
    intro a; have := k.isLt; fin_cases a
    · show 0 + 64 ≤ 64; omega
    · show 16 * k.val + 16 ≤ 256; omega
    · show 0 + 256 ≤ 256; omega)
/-- Rows `16k … 16k+15` of the bin numbers. -/
abbrev ldq (q : S256x256.Idx → F .f32) (k : Fin 16) : FVec F S16x256 .f32 :=
  VecWindow.window q ![16 * k.val, 0] S16x256.size (by
    intro a; have := k.isLt; fin_cases a
    · show 16 * k.val + 16 ≤ 256; omega
    · show 0 + 256 ≤ 256; omega)

/-- The channel sums before trip `k`. -/
def accA (x : S64x256x256.Idx → F .f32) : ℕ → FVec F S64x256 .f32
  | 0 => k0_pay9
  | k + 1 => if h : k < 16 then k0_pay10 (accA x k) (ldx x ⟨k, h⟩) else accA x k

/-- The joint counts before trip `k`, from the mean direction `v28` and the row labels `v53`. -/
def accM (v28 : FVec F S64x256 .f32) (v53 : IVec S256x256 32) (x : S64x256x256.Idx → F .f32) : ℕ → FVec F S256x256 .f32
  | 0 => k0_pay14
  | k + 1 => if h : k < 16 then
      k0_pay15 (accM v28 v53 x k) (k0_pay3 v28 v53 (ldx x ⟨k, h⟩)) (k0_pay4 v28 v53 (ldx x ⟨k, h⟩)) (Scalar.ofBits .f32 0x00000000#32) k0_pay5
    else accM v28 v53 x k

/-- The bin-number buffer before trip `k`, from contents `q0`. -/
def qSt (v28 : FVec F S64x256 .f32) (x : S64x256x256.Idx → F .f32) (q0 : S256x256.Idx → F .f32) : ℕ → S256x256.Idx → F .f32
  | 0 => q0
  | k + 1 => if h : k < 16 then VecWindow.put (qSt v28 x q0 k) ![16 * k, 0] S16x256.size (k0_pay2 v28 (ldx x ⟨k, h⟩)) else qSt v28 x q0 k

/-- The image before trip `k` of the last loop, from the image `x`, the table `v150` and the bin numbers `q`. -/
def xSt (v53 : IVec S256x256 32) (v150 : FVec F S256x256 .f32) (q : S256x256.Idx → F .f32) (x : S64x256x256.Idx → F .f32) : ℕ → S64x256x256.Idx → F .f32
  | 0 => x
  | k + 1 => if h : k < 16 then
      VecWindow.put (xSt v53 v150 q x k) ![0, 16 * k, 0] S64x16x256.size
        (k0_pay25 (k0_pay7 v53 v150 (ldq q ⟨k, h⟩)) (k0_pay8 v53 v150 (ldq q ⟨k, h⟩)) (ldx (xSt v53 v150 q x k) ⟨k, h⟩))
    else xSt v53 v150 q x k

/-- A load of an image's rows reads them. -/
theorem read_rows (v : View sig .tc .vmem S64x256x256 .f32) (x : S64x256x256.Idx → F .f32) (k : Fin 16) {off : Fin 3 → ℕ}
    (inb : ∀ a, off a + S64x16x256.size a ≤ S64x256x256.size a) (h : off = ![0, 16 * k.val, 0]) :
    v.readAt (Elt F) (Rect.unit (s := S64x256x256) off S64x16x256.size inb).toLoadRect (v.writes (Elt F) v.junk [⟨Rect.whole S64x256x256, x⟩]) = ldx x k :=
  View.readAt_rep_unit (Val := Elt F) v x inb h _
/-- A load of the bin numbers' rows reads them. -/
theorem read_bins (v : View sig .tc .vmem S256x256 .f32) (q : S256x256.Idx → F .f32) (k : Fin 16) {off : Fin 2 → ℕ}
    (inb : ∀ a, off a + S16x256.size a ≤ S256x256.size a) (h : off = ![16 * k.val, 0]) :
    v.readAt (Elt F) (Rect.unit (s := S256x256) off S16x256.size inb).toLoadRect (v.writes (Elt F) v.junk [⟨Rect.whole S256x256, q⟩]) = ldq q k :=
  View.readAt_rep_unit (Val := Elt F) v q inb h _
/-- A store over an image's rows. -/
theorem put_rows (v : View sig .tc .vmem S64x256x256 .f32) (x : S64x256x256.Idx → F .f32) (k : ℕ) {off : Fin 3 → ℕ}
    (inb : ∀ a, off a + S64x16x256.size a ≤ S64x256x256.size a) (w : FVec F S64x16x256 .f32) (h : off = ![0, 16 * k, 0]) :
    v.read (Elt F) (v.writes (Elt F) v.junk [⟨Rect.unit (s := S64x256x256) off S64x16x256.size inb, w⟩, ⟨Rect.whole S64x256x256, x⟩])
      = VecWindow.put x ![0, 16 * k, 0] S64x16x256.size w := by
  rw [View.read_writes_cons_put (Val := Elt F) v _ inb w _ h, View.read_writes_whole]
/-- A store over the bin numbers' rows. -/
theorem put_bins (v : View sig .tc .vmem S256x256 .f32) (q : S256x256.Idx → F .f32) (k : ℕ) {off : Fin 2 → ℕ}
    (inb : ∀ a, off a + S16x256.size a ≤ S256x256.size a) (w : FVec F S16x256 .f32) (h : off = ![16 * k, 0]) :
    v.read (Elt F) (v.writes (Elt F) v.junk [⟨Rect.unit (s := S256x256) off S16x256.size inb, w⟩, ⟨Rect.whole S256x256, q⟩])
      = VecWindow.put q ![16 * k, 0] S16x256.size w := by
  rw [View.read_writes_cons_put (Val := Elt F) v _ inb w _ h, View.read_writes_whole]

/-! ## The loops -/

section Run

variable (c : Dev nD) (i : grid0.Coords)

/-- A slot holding the image `x`. -/
abbrev slotX (s : Fin 2) (x : S64x256x256.Idx → F .f32) : sProp 𝕄 :=
  (rslot s).view.loc (c : Thread nD τ) ↦[(rslot s).view.set]{fullShare} (rslot s).view.writes (Elt F) (rslot s).view.junk [⟨Rect.whole S64x256x256, x⟩]
/-- The bin-number buffer holding `q`. -/
abbrev qX (q : S256x256.Idx → F .f32) : sProp 𝕄 :=
  qM.view.loc (c : Thread nD τ) ↦[qM.view.set]{fullShare} qM.view.writes (Elt F) qM.view.junk [⟨Rect.whole S256x256, q⟩]

abbrev t1G (k : Fin k0_t1_loop.trips) (acc : FVec F S64x256 .f32) : Prog (TpuEff nD τ sig (Elt F) Λ₀ .tc) (FVec F S64x256 .f32) :=
  k0_t1_body (F := F) i inM (Memref.isWhole_whole _) outM (Memref.isWhole_whole _) bufM (Memref.isWhole_whole _) qM (Memref.isWhole_whole _) cc0_scratch2 cc0_scratch3 k acc

theorem lt1 (k : Fin k0_t1_loop.trips) : k.val < 16 := Nat.lt_of_lt_of_le k.isLt k0_t1_abs.2.1
theorem lt2 (k : Fin k0_t2_loop.trips) : k.val < 16 := Nat.lt_of_lt_of_le k.isLt k0_t2_abs.2.1
theorem lt3 (k : Fin k0_t3_loop.trips) : k.val < 16 := Nat.lt_of_lt_of_le k.isLt k0_t3_abs.2.1

/-- One trip of the first loop adds the rows' sums. -/
theorem trip1 (x : S64x256x256.Idx → F .f32) (k : Fin k0_t1_loop.trips) (acc : FVec F S64x256 .f32) :
    (slotX c (sCur i) x : sProp 𝕄) ⊢ wp frame (wpE (defs₀ (F := F)) 𝒱₀ (c : Thread nD τ) none) Set.univ (t1G i k acc)
      (fun y => iprop(slotX c (sCur i) x ∗ ⌜y = k0_pay10 acc (ldx x ⟨k.val, lt1 k⟩)⌝)) := by
  have hk := lt1 k
  iintro H
  dsimp only [t1G]
  sl_unfold [k0_t1_body]
  sl_exec
  sl_step
  isplitl [H]; · iexact H
  ipureintro
  exact congrArg (k0_pay10 acc) (read_rows (rslot (sCur i)).view x ⟨k.val, lt1 k⟩ (k0_off8_inb k) (k0_off8_eq k))

set_option warn.classDefReducibility false in
/-- The first loop: the channel sums so far. -/
@[sl_loop] def loopInv1 (x : S64x256x256.Idx → F .f32) :
    LoopInvTy_k0_t1 (F := F) Unit ℕ (UU nD τ) ℕ 𝒱₀ c none Set.univ i inM (Memref.isWhole_whole _) outM (Memref.isWhole_whole _) bufM (Memref.isWhole_whole _) qM (Memref.isWhole_whole _) cc0_scratch2 cc0_scratch3 (k0_pay9 (F := F)) where
  inv k acc := iprop(slotX c (sCur i) x ∗ ⌜acc = accA x k⌝)
  step k acc := by
    iintro ⟨H, %h⟩
    subst h
    iapply (wp_wand_r Idealize.ShloMosaic.frame (wpE (defs₀ (F := F)) 𝒱₀ (c : Thread nD τ) none) Set.univ)
    isplitl [H]
    · iapply (trip1 c i x k (accA x k.val)); iexact H
    · iintro %y ⟨H, %h⟩
      isplitl [H]; · iexact H
      ipureintro
      rw [h, accA, dif_pos (lt1 k)]

abbrev t2G (a1 v1 : BitVec 32) (v28 : FVec F S64x256 .f32) (v29 : IVec S256x256 32) (c16 : BitVec 32) (v31 : IVec S256x256 32) (c0 : BitVec 32)
    (k : Fin k0_t2_loop.trips) (acc : FVec F S256x256 .f32) : Prog (TpuEff nD τ sig (Elt F) Λ₀ .tc) (FVec F S256x256 .f32) :=
  k0_t2_body (F := F) i inM (Memref.isWhole_whole _) outM (Memref.isWhole_whole _) bufM (Memref.isWhole_whole _) qM (Memref.isWhole_whole _) cc0_scratch2 cc0_scratch3 a1 v1 v28 v29 c16 v31 c0 k acc

/-- One trip of the second loop adds the rows' joint counts and stores their bin numbers. -/
theorem trip2 (a1 v1 : BitVec 32) (v28 : FVec F S64x256 .f32) (v29 : IVec S256x256 32) (c16 : BitVec 32) (v31 : IVec S256x256 32) (c0 : BitVec 32)
    (x : S64x256x256.Idx → F .f32) (q : S256x256.Idx → F .f32) (k : Fin k0_t2_loop.trips) (acc : FVec F S256x256 .f32) :
    (iprop(slotX c (sCur i) x ∗ qX c q) : sProp 𝕄) ⊢ wp frame (wpE (defs₀ (F := F)) 𝒱₀ (c : Thread nD τ) none) Set.univ (t2G i a1 v1 v28 v29 c16 v31 c0 k acc)
      (fun y => iprop(slotX c (sCur i) x ∗ qX c (VecWindow.put q ![16 * k.val, 0] S16x256.size (k0_pay2 v28 (ldx x ⟨k.val, lt2 k⟩)))
        ∗ ⌜y = k0_pay15 acc (k0_pay3 v28 (k0_pay13 v29 c16 v31 c0) (ldx x ⟨k.val, lt2 k⟩)) (k0_pay4 v28 (k0_pay13 v29 c16 v31 c0) (ldx x ⟨k.val, lt2 k⟩)) (Scalar.ofBits .f32 0x00000000#32) k0_pay5⌝)) := by
  have hk := lt2 k
  iintro ⟨H, HQ⟩
  dsimp only [t2G]
  sl_unfold [k0_t2_body]
  sl_exec
  sl_step
  isplitl [H]; · iexact H
  have e := read_rows (rslot (sCur i)).view x ⟨k.val, lt2 k⟩ (k0_off10_inb k) (k0_off10_eq k)
  rw [← e]
  ihave HQ' := (pointsTo_rep_of_read (Ix := Unit) (Name := ℕ) (U := UU nD τ) (Lvl := ℕ) (c : Thread nD τ) qM _ fullShare _ (put_bins qM.view q k.val (k0_off11_inb k) _ (k0_off11_eq k))) $$ HQ
  isplitl [HQ']; · iexact HQ'
  ipureintro; rfl

abbrev t3G (v53 : IVec S256x256 32) (v72 : FVec F S256x256 .f32) (v102 : FVec F S16x256 .f32) (v106 v112 v116 : FVec F S16x16 .f32)
    (k : Fin k0_t3_loop.trips) : Prog (TpuEff nD τ sig (Elt F) Λ₀ .tc) Unit :=
  k0_t3_body (F := F) i inM (Memref.isWhole_whole _) outM (Memref.isWhole_whole _) bufM (Memref.isWhole_whole _) qM (Memref.isWhole_whole _) cc0_scratch2 cc0_scratch3 v53 v72 v102 v106 v112 v116 k ()

/-- One trip of the last loop scales the rows by the table at their bin numbers. -/
theorem trip3 (v53 : IVec S256x256 32) (v72 : FVec F S256x256 .f32) (v102 : FVec F S16x256 .f32) (v106 v112 v116 : FVec F S16x16 .f32)
    (x : S64x256x256.Idx → F .f32) (q : S256x256.Idx → F .f32) (k : Fin k0_t3_loop.trips) :
    (iprop(slotX c (sCur i) x ∗ qX c q) : sProp 𝕄) ⊢ wp frame (wpE (defs₀ (F := F)) 𝒱₀ (c : Thread nD τ) none) Set.univ (t3G i v53 v72 v102 v106 v112 v116 k)
      (fun _ => iprop(slotX c (sCur i) (VecWindow.put x ![0, 16 * k.val, 0] S64x16x256.size
          (k0_pay25 (k0_pay7 v53 (k0_pay24 v72 v102 v106 v112 v116) (ldq q ⟨k.val, lt3 k⟩)) (k0_pay8 v53 (k0_pay24 v72 v102 v106 v112 v116) (ldq q ⟨k.val, lt3 k⟩)) (ldx x ⟨k.val, lt3 k⟩)))
        ∗ qX c q)) := by
  have hk := lt3 k
  iintro ⟨H, HQ⟩
  dsimp only [t3G]
  sl_unfold [k0_t3_body]
  sl_exec
  sl_step
  have e := read_rows (rslot (sCur i)).view x ⟨k.val, lt3 k⟩ (k0_off19_inb k) (k0_off19_eq k)
  have eq := read_bins qM.view q ⟨k.val, lt3 k⟩ (k0_off17_inb k) (k0_off17_eq k)
  rw [← e, ← eq]
  ihave H' := (pointsTo_rep_of_read (Ix := Unit) (Name := ℕ) (U := UU nD τ) (Lvl := ℕ) (c : Thread nD τ) (rslot (sCur i)) _ fullShare _ (put_rows (rslot (sCur i)).view x k.val (k0_off19_inb k) _ (k0_off19_eq k))) $$ H
  isplitl [H']; · iexact H'
  iexact HQ

set_option warn.classDefReducibility false in
/-- The second loop: the joint counts so far, and the bin numbers stored so far. -/
@[sl_loop] def loopInv2 (a1 v1 : BitVec 32) (v28 : FVec F S64x256 .f32) (v29 : IVec S256x256 32) (c16 : BitVec 32) (v31 : IVec S256x256 32) (c0 : BitVec 32)
    (x : S64x256x256.Idx → F .f32) (q : S256x256.Idx → F .f32) :
    LoopInvTy_k0_t2 (F := F) Unit ℕ (UU nD τ) ℕ 𝒱₀ c none Set.univ i inM (Memref.isWhole_whole _) outM (Memref.isWhole_whole _) bufM (Memref.isWhole_whole _) qM (Memref.isWhole_whole _) cc0_scratch2 cc0_scratch3
      a1 v1 v28 v29 c16 v31 c0 (k0_pay14 (F := F)) where
  inv k acc := iprop(slotX c (sCur i) x ∗ qX c (qSt v28 x q k) ∗ ⌜acc = accM v28 (k0_pay13 v29 c16 v31 c0) x k⌝)
  step k acc := by
    iintro ⟨H, HQ, %h⟩
    subst h
    iapply (wp_wand_r Idealize.ShloMosaic.frame (wpE (defs₀ (F := F)) 𝒱₀ (c : Thread nD τ) none) Set.univ)
    isplitl [H HQ]
    · iapply (trip2 c i a1 v1 v28 v29 c16 v31 c0 x (qSt v28 x q k.val) k (accM v28 (k0_pay13 v29 c16 v31 c0) x k.val))
      isplitl [H]; · iexact H
      iexact HQ
    · iintro %y ⟨H, HQ, %h⟩
      rw [accM, qSt, dif_pos (lt2 k), dif_pos (lt2 k)]
      isplitl [H]; · iexact H
      isplitl [HQ]; · iexact HQ
      ipureintro
      exact h

set_option warn.classDefReducibility false in
/-- The last loop: the image scaled so far. -/
@[sl_loop] def loopInv3 (v53 : IVec S256x256 32) (v72 : FVec F S256x256 .f32) (v102 : FVec F S16x256 .f32) (v106 v112 v116 : FVec F S16x16 .f32)
    (x : S64x256x256.Idx → F .f32) (q : S256x256.Idx → F .f32) :
    LoopInvTy_k0_t3 (F := F) Unit ℕ (UU nD τ) ℕ 𝒱₀ c none Set.univ i inM (Memref.isWhole_whole _) outM (Memref.isWhole_whole _) bufM (Memref.isWhole_whole _) qM (Memref.isWhole_whole _) cc0_scratch2 cc0_scratch3
      v53 v72 v102 v106 v112 v116 where
  inv k _ := iprop(slotX c (sCur i) (xSt v53 (k0_pay24 v72 v102 v106 v112 v116) q x k) ∗ qX c q)
  step k _ := by
    iintro ⟨H, HQ⟩
    iapply (wp_wand_r Idealize.ShloMosaic.frame (wpE (defs₀ (F := F)) 𝒱₀ (c : Thread nD τ) none) Set.univ)
    isplitl [H HQ]
    · iapply (trip3 c i v53 v72 v102 v106 v112 v116 (xSt v53 (k0_pay24 v72 v102 v106 v112 v116) q x k.val) q k)
      isplitl [H]; · iexact H
      iexact HQ
    · iintro %y ⟨H, HQ⟩
      rw [xSt, dif_pos (lt3 k)]
      isplitl [H]; · iexact H
      iexact HQ

end Run

end Cert.KernelIdeal.Hand

end
-- ==== Proof.IdealPoint.lean ====
/-
  What one grid point leaves of an image, chunk by chunk: the trips' overwritings cleared away.
-/
module

public import proofs.«01_k».proof.Proof.IdealLoops

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

/-! ## What a grid point computes -/

/-- The row labels. -/
abbrev lab : IVec S256x256 32 := k0_pay13 (iota .tc S256x256 32 [0] iota_S256x256_d0_w32) 16#32 k0_pay12 0#32
/-- The mean direction of an image. -/
abbrev mdir (x : S64x256x256.Idx → F .f32) : FVec F S64x256 .f32 := k0_pay11 (accA x 16)
/-- The mask of the table's diagonal bands. -/
abbrev band : FVec F S256x256 .f32 := k0_pay19 k0_pay16 k0_pay17 k0_pay18
/-- The histogram, its bins laid out 16 by 16. -/
abbrev hist (x : S64x256x256.Idx → F .f32) : FVec F S16x16 .f32 := k0_pay21 (accM (mdir x) lab x 16) k0_pay16 k0_pay17 k0_pay18
/-- The table of new values. -/
abbrev tab (x : S64x256x256.Idx → F .f32) : FVec F S256x256 .f32 := k0_pay24 band k0_pay20 (hist x) k0_pay22 k0_pay23
/-- The image scaled, the bin-number buffer at `q0` before. -/
abbrev outW (q0 : S256x256.Idx → F .f32) (x : S64x256x256.Idx → F .f32) : S64x256x256.Idx → F .f32 :=
  xSt lab (tab x) (qSt (mdir x) x q0 16) x 16

/-- The bin numbers of rows `16k … 16k+15`. -/
abbrev binsOf (x : S64x256x256.Idx → F .f32) (k : Fin 16) : FVec F S16x256 .f32 := k0_pay2 (mdir x) (ldx x k)
/-- Rows `16k … 16k+15` of the image scaled. -/
abbrev outRows (x : S64x256x256.Idx → F .f32) (k : Fin 16) : FVec F S64x16x256 .f32 :=
  k0_pay25 (k0_pay7 lab (tab x) (binsOf x k)) (k0_pay8 lab (tab x) (binsOf x k)) (ldx x k)

/-- The chunk an element lies in. -/
def chunkOf (y : S64x256x256.Idx) : Fin 16 := ⟨(y 1).val / 16, by have : (y 1).val < 256 := (y 1).isLt; omega⟩
/-- The element within its chunk. -/
def within (y : S64x256x256.Idx) : S64x16x256.Idx := fun a => match a with
  | ⟨0, _⟩ => y 0
  | ⟨1, _⟩ => ⟨(y 1).val % 16, Nat.mod_lt _ (by decide)⟩
  | ⟨2, _⟩ => y 2
/-- The image scaled. -/
def outX (x : S64x256x256.Idx → F .f32) : S64x256x256.Idx → F .f32 := fun y => outRows x (chunkOf y) (within y)

/-! ## The trips' overwritings -/

theorem ldq_qSt (v28 : FVec F S64x256 .f32) (x : S64x256x256.Idx → F .f32) (q0 : S256x256.Idx → F .f32) (k : Fin 16) :
    ∀ n : ℕ, k.val < n → n ≤ 16 → ldq (qSt v28 x q0 n) k = k0_pay2 v28 (ldx x k)
  | 0, h, _ => absurd h (Nat.not_lt_zero _)
  | n + 1, h, hn => by
    rw [qSt, dif_pos (by omega)]
    by_cases e : k.val = n
    · subst e
      exact VecWindow.window_put_same (s := S256x256) _ ![16 * k.val, 0] S16x256.size _ _
    · rw [← ldq_qSt v28 x q0 k n (by omega) (by omega)]
      exact VecWindow.window_put_of_disjoint (s := S256x256) _ ![16 * n, 0] S16x256.size ![16 * k.val, 0] S16x256.size _ _ 0 (Or.inl (show 16 * k.val + 16 ≤ 16 * n by omega))

theorem ldx_xSt_ge (v53 : IVec S256x256 32) (v150 : FVec F S256x256 .f32) (q : S256x256.Idx → F .f32) (x : S64x256x256.Idx → F .f32) (k : Fin 16) :
    ∀ n : ℕ, n ≤ k.val → ldx (xSt v53 v150 q x n) k = ldx x k
  | 0, _ => rfl
  | n + 1, h => by
    rw [xSt, dif_pos (by have := k.isLt; omega), ← ldx_xSt_ge v53 v150 q x k n (by omega)]
    exact VecWindow.window_put_of_disjoint (s := S64x256x256) _ ![0, 16 * n, 0] S64x16x256.size ![0, 16 * k.val, 0] S64x16x256.size _ _ 1 (Or.inr (show 16 * n + 16 ≤ 16 * k.val by omega))

theorem ldx_xSt_lt (v53 : IVec S256x256 32) (v150 : FVec F S256x256 .f32) (q : S256x256.Idx → F .f32) (x : S64x256x256.Idx → F .f32) (k : Fin 16) :
    ∀ n : ℕ, k.val < n → n ≤ 16 → ldx (xSt v53 v150 q x n) k = k0_pay25 (k0_pay7 v53 v150 (ldq q k)) (k0_pay8 v53 v150 (ldq q k)) (ldx x k)
  | 0, h, _ => absurd h (Nat.not_lt_zero _)
  | n + 1, h, hn => by
    rw [xSt, dif_pos (by omega)]
    by_cases e : k.val = n
    · subst e
      rw [ldx_xSt_ge v53 v150 q x k k.val le_rfl]
      exact VecWindow.window_put_same (s := S64x256x256) _ ![0, 16 * k.val, 0] S64x16x256.size _ _
    · rw [← ldx_xSt_lt v53 v150 q x k n (by omega) (by omega)]
      exact VecWindow.window_put_of_disjoint (s := S64x256x256) _ ![0, 16 * n, 0] S64x16x256.size ![0, 16 * k.val, 0] S64x16x256.size _ _ 1 (Or.inl (show 16 * k.val + 16 ≤ 16 * n by omega))

/-- An element read through its chunk. -/
theorem ldx_within (x : S64x256x256.Idx → F .f32) (y : S64x256x256.Idx) : ldx x (chunkOf y) (within y) = x y := by
  refine congrArg x (funext fun a => Fin.ext ?_)
  fin_cases a
  · show 0 + 1 * (y 0).val = (y 0).val; omega
  · show 16 * ((y 1).val / 16) + 1 * ((y 1).val % 16) = (y 1).val; omega
  · show 0 + 1 * (y 2).val = (y 2).val; omega

/-- Whatever the bin-number buffer held before, the image left is `outX`. -/
theorem outW_eq (q0 : S256x256.Idx → F .f32) (x : S64x256x256.Idx → F .f32) : outW q0 x = outX x := by
  funext y
  rw [← ldx_within (outW q0 x) y]
  unfold outX outRows
  rw [ldx_xSt_lt lab (tab x) _ x (chunkOf y) 16 (chunkOf y).isLt le_rfl, ldq_qSt (mdir x) x q0 (chunkOf y) 16 (chunkOf y).isLt le_rfl]

end Cert.KernelIdeal.Hand

end
-- ==== Proof.IdealBody.lean ====
/-
  One grid point of the kernel, in its three forms — the first of a row of eight, a middle one, the last — each from
  the transfers it finds under way to those it leaves.
-/
module

public import proofs.«01_k».proof.Proof.IdealPoint

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

section Run

variable (c : Dev nD) (i : grid0.Coords)

/-- The kernel's body at the point. -/
abbrev bodyG : Prog (TpuEff nD τ sig (Elt F) Λ₀ .tc) PUnit :=
  cc0__enhance_body (F := F) i inM (Memref.isWhole_whole _) outM (Memref.isWhole_whole _) bufM (Memref.isWhole_whole _) qM (Memref.isWhole_whole _) cc0_scratch2 cc0_scratch3

abbrev cellP (s : Fin 2) : sProp 𝕄 := semVal ((c : Thread nD τ), SemLoc.dma (csm s).sem) 0
abbrev ocellP : sProp 𝕄 := semVal ((c : Thread nD τ), SemLoc.dma cc0_scratch3.sem) 0
/-- Block `b` of the argument at the array's contents `XA`. -/
abbrev inP (XA : Buf (Elt F) (inM.view.loc (c : Thread nD τ))) (b : Fin 16) : sProp 𝕄 := (inb b).view.loc (c : Thread nD τ) ↦[(inb b).view.set]{fullShare} XA
/-- Block `b` of the argument, as an image. -/
abbrev img (XA : Buf (Elt F) (inM.view.loc (c : Thread nD τ))) (b : Fin 16) : S64x256x256.Idx → F .f32 := (inb b).view.read (Elt F) XA
/-- Block `b` of the result at the array's contents `Y`. -/
abbrev outP (Y : Buf (Elt F) (outM.view.loc (c : Thread nD τ))) (b : Fin 16) : sProp 𝕄 := (outb b).view.loc (c : Thread nD τ) ↦[(outb b).view.set]{fullShare} Y
abbrev slotP (s : Fin 2) (f : Buf (Elt F) ((rslot s).view.loc (c : Thread nD τ))) : sProp 𝕄 :=
  (rslot s).view.loc (c : Thread nD τ) ↦[(rslot s).view.set]{fullShare} f
/-- Block `b` of the argument on its way into slot `s`, which held `f`. -/
abbrev flyIn (XA : Buf (Elt F) (inM.view.loc (c : Thread nD τ))) (s : Fin 2) (b : Fin 16) (f : Buf (Elt F) ((rslot s).view.loc (c : Thread nD τ))) : sProp 𝕄 :=
  Transfers.Flight countersEmb (c : Thread nD τ) (SemLoc.dma (csm s).sem) () 524288
    iprop(slotP c s ((rslot s).view.writes (Elt F) f [⟨Rect.whole S64x256x256, img c XA b⟩]) ∗ inP c XA b)
/-- The image `x` in slot `s` on its way into block `b` of the result, which held `Y`. -/
abbrev flyOut (Y : Buf (Elt F) (outM.view.loc (c : Thread nD τ))) (s : Fin 2) (b : Fin 16) (x : S64x256x256.Idx → F .f32) : sProp 𝕄 :=
  Transfers.Flight countersEmb (c : Thread nD τ) (SemLoc.dma cc0_scratch3.sem) () 524288
    iprop(outP c ((outb b).view.writes (Elt F) Y [⟨Rect.whole S64x256x256, x⟩]) b ∗ slotX c s x)
/-- Block `b` of the result holding the image `x`. -/
abbrev outL (b : Fin 16) (x : S64x256x256.Idx → F .f32) : sProp 𝕄 :=
  iprop(∃ Y : Buf (Elt F) (outM.view.loc (c : Thread nD τ)), outP c ((outb b).view.writes (Elt F) Y [⟨Rect.whole S64x256x256, x⟩]) b)

/-- The trips of each of the three loops. -/
theorem tr1 : Scf.trips k0_t1_loop.lb k0_t1_loop.ub k0_t1_loop.st = 16 := by decide

variable (XA : Buf (Elt F) (inM.view.loc (c : Thread nD τ)))

/-- The image the point leaves, as the run states it. -/
theorem run_value (x : S64x256x256.Idx → F .f32) (q0 : S256x256.Idx → F .f32) :
    xSt lab (k0_pay24 (k0_pay19 k0_pay16 k0_pay17 k0_pay18) k0_pay20
        (k0_pay21 (accM (k0_pay11 (accA x (Scf.trips k0_t1_loop.lb k0_t1_loop.ub k0_t1_loop.st))) lab x (Scf.trips k0_t2_loop.lb k0_t2_loop.ub k0_t2_loop.st)) k0_pay16 k0_pay17 k0_pay18)
        k0_pay22 k0_pay23)
      (qSt (k0_pay11 (accA x (Scf.trips k0_t1_loop.lb k0_t1_loop.ub k0_t1_loop.st))) x q0 (Scf.trips k0_t2_loop.lb k0_t2_loop.ub k0_t2_loop.st))
      x (Scf.trips k0_t3_loop.lb k0_t3_loop.ub k0_t3_loop.st) = outX x := by
  rw [tr1]; exact outW_eq q0 x

/-- A middle point. -/
theorem bodyMid (h1 : ¬ k0_cond1 i = 1#1) (h2 : k0_cond2 i = 1#1) (h3 : k0_cond3 i = 1#1) (h4 : ¬ k0_cond4 i = 1#1)
    (xo : S64x256x256.Idx → F .f32) (Y0 Y1) (f0) (q0 : S256x256.Idx → F .f32) (W) (Q : PUnit → sProp 𝕄) :
    iprop((inP c XA (bNext i) ∗ outP c Y1 (bCur i) ∗ flyIn c XA (sCur i) (bCur i) f0 ∗ flyOut c Y0 (sNxt i) (bPrev i) xo ∗ cellP c (sNxt i) ∗ qX c q0 ∗ owes (c : Thread nD τ) 0 W)
      ∗ ((inP c XA (bCur i) ∗ outL c (bPrev i) xo ∗ (∃ f, flyIn c XA (sNxt i) (bNext i) f) ∗ flyOut c Y1 (sCur i) (bCur i) (outX (img c XA (bCur i))) ∗ cellP c (sCur i) ∗ (∃ q, qX c q) ∗ ∃ W', owes (c : Thread nD τ) 0 W') -∗ Q ⟨⟩))
    ⊢ wp frame (wpE (defs₀ (F := F)) 𝒱₀ (c : Thread nD τ) none) Set.univ (bodyG i) Q := by
  iintro ⟨⟨Hn, Ho, HF, HFo, Hc, Hq, HW⟩, Hk⟩
  dsimp only [bodyG]
  rw [cc0__enhance_body_eq_skeleton]; unfold cc0__enhance_body_skel
  rw [k0_part3_eq_skeleton, k0_part4_eq_skeleton, k0_part5_eq_skeleton, k0_part6_eq_skeleton]
  sl_exec
  sl_step
  have ev := run_value (img c XA (bCur i)) q0
  have ed : bodyMid.sl.dma0_1 c i XA q0 = outX (img c XA (bCur i)) := (View.read_writes_whole (Val := Elt F) (rslot (sCur i)).view _ _).trans ev
  rw [ed]
  iapply Hk
  isplitl [HF_src]; · iexact HF_src
  isplitl [HFo_dst]; · iexists _; iexact HFo_dst
  isplitl [Hc]
  · iexists ((rslot (sNxt i)).view.writes (Elt F) (rslot (sNxt i)).view.junk [⟨Rect.whole S64x256x256, xo⟩])
    iexact Hc
  isplitl [HFo]
  · rw [← ev]; iexact HFo
  isplitl [HF]; · iexact HF
  isplitl [Hq]; · iexists _; iexact Hq
  iexists _; iexact HW

/-- The first point of a core's half. -/
theorem bodyFirst (h1 : k0_cond1 i = 1#1) (h2 : ¬ k0_cond2 i = 1#1) (h3 : k0_cond3 i = 1#1) (h4 : ¬ k0_cond4 i = 1#1)
    (Y1) (f0) (f1) (q0 : S256x256.Idx → F .f32) (W) (Q : PUnit → sProp 𝕄) :
    iprop((inP c XA (bCur i) ∗ inP c XA (bNext i) ∗ outP c Y1 (bCur i) ∗ slotP c (sCur i) f0 ∗ slotP c (sNxt i) f1 ∗ cellP c (sCur i) ∗ cellP c (sNxt i) ∗ ocellP c ∗ qX c q0 ∗ owes (c : Thread nD τ) 0 W)
      ∗ ((inP c XA (bCur i) ∗ (∃ f, flyIn c XA (sNxt i) (bNext i) f) ∗ flyOut c Y1 (sCur i) (bCur i) (outX (img c XA (bCur i))) ∗ cellP c (sCur i) ∗ (∃ q, qX c q) ∗ ∃ W', owes (c : Thread nD τ) 0 W') -∗ Q ⟨⟩))
    ⊢ wp frame (wpE (defs₀ (F := F)) 𝒱₀ (c : Thread nD τ) none) Set.univ (bodyG i) Q := by
  iintro ⟨⟨Hi, Hn, Ho, Hs, Ht, Hc, Hd, Hf, Hq, HW⟩, Hk⟩
  dsimp only [bodyG]
  rw [cc0__enhance_body_eq_skeleton]; unfold cc0__enhance_body_skel
  rw [k0_part3_eq_skeleton, k0_part4_eq_skeleton, k0_part5_eq_skeleton, k0_part6_eq_skeleton]
  sl_exec
  sl_step
  have ev := run_value (img c XA (bCur i)) q0
  have ed : bodyFirst.sl.dma0_2 c i XA q0 = outX (img c XA (bCur i)) := (View.read_writes_whole (Val := Elt F) (rslot (sCur i)).view _ _).trans ev
  rw [ed]
  iapply Hk
  isplitl [Hi]; · iexact Hi
  isplitl [Hd]; · iexists f1; iexact Hd
  isplitl [Hf]
  · rw [← ev]; iexact Hf
  isplitl [Hc]; · iexact Hc
  isplitl [Hq]; · iexists _; iexact Hq
  iexists _; iexact HW

/-- The last point of a core's half. -/
theorem bodyLast (h1 : ¬ k0_cond1 i = 1#1) (h2 : k0_cond2 i = 1#1) (h3 : ¬ k0_cond3 i = 1#1) (h4 : k0_cond4 i = 1#1)
    (xo : S64x256x256.Idx → F .f32) (Y0 Y1) (f0) (q0 : S256x256.Idx → F .f32) (W) (Q : PUnit → sProp 𝕄) :
    iprop((outP c Y1 (bCur i) ∗ flyIn c XA (sCur i) (bCur i) f0 ∗ flyOut c Y0 (sNxt i) (bPrev i) xo ∗ cellP c (sNxt i) ∗ qX c q0 ∗ owes (c : Thread nD τ) 0 W)
      ∗ ((inP c XA (bCur i) ∗ outL c (bPrev i) xo ∗ outL c (bCur i) (outX (img c XA (bCur i))) ∗ slotX c (sNxt i) xo ∗ slotX c (sCur i) (outX (img c XA (bCur i))) ∗ cellP c (sCur i) ∗ cellP c (sNxt i) ∗ ocellP c ∗ (∃ q, qX c q) ∗ ∃ W', owes (c : Thread nD τ) 0 W') -∗ Q ⟨⟩))
    ⊢ wp frame (wpE (defs₀ (F := F)) 𝒱₀ (c : Thread nD τ) none) Set.univ (bodyG i) Q := by
  iintro ⟨⟨Ho, HF, HFo, Hc, Hq, HW⟩, Hk⟩
  dsimp only [bodyG]
  rw [cc0__enhance_body_eq_skeleton]; unfold cc0__enhance_body_skel
  rw [k0_part3_eq_skeleton, k0_part4_eq_skeleton, k0_part5_eq_skeleton, k0_part6_eq_skeleton]
  sl_exec
  sl_step
  have ev := run_value (img c XA (bCur i)) q0
  have ed : bodyLast.sl.dma0 c i XA q0 = outX (img c XA (bCur i)) := (View.read_writes_whole (Val := Elt F) (rslot (sCur i)).view _ _).trans ev
  rw [ed]
  iapply Hk
  isplitl [HF_src]; · iexact HF_src
  isplitl [HFo_dst]; · iexists _; iexact HFo_dst
  isplitl [Ho]; · iexists _; iexact Ho
  isplitl [HFo_src]; · iexact HFo_src
  isplitl [HF_dst]
  · rw [← ev]; iexact HF_dst
  isplitl [HF]; · iexact HF
  isplitl [Hc]; · iexact Hc
  isplitl [HFo]; · iexact HFo
  isplitl [Hq]; · iexists _; iexact Hq
  iexists _; iexact HW

end Run

end Cert.KernelIdeal.Hand

end
-- ==== Proof.IdealState.lean ====
/-
  The state between grid points: which blocks are home, which transfers are under way. One step of it is one grid
  point (IdealBody).
-/
module

public import proofs.«01_k».proof.Proof.IdealBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

/-! ## The point's numbers -/

/-- Image number `n`. -/
def B (n : ℕ) : Fin 16 := ⟨n % 16, Nat.mod_lt _ (by decide)⟩
/-- Slot number `n`. -/
def Sl (n : ℕ) : Fin 2 := ⟨n % 2, Nat.mod_lt _ (by decide)⟩

theorem cond1_iff : ∀ t : Fin cfg0.N, (k0_cond1 (grid0.coords t) = 1#1) ↔ t.val % 8 = 0 := by decide +kernel
theorem cond2_iff : ∀ t : Fin cfg0.N, (k0_cond2 (grid0.coords t) = 1#1) ↔ t.val % 8 ≠ 0 := by decide +kernel
theorem cond3_iff : ∀ t : Fin cfg0.N, (k0_cond3 (grid0.coords t) = 1#1) ↔ t.val % 8 ≠ 7 := by decide +kernel
theorem cond4_iff : ∀ t : Fin cfg0.N, (k0_cond4 (grid0.coords t) = 1#1) ↔ t.val % 8 = 7 := by decide +kernel
theorem bCur_eq : ∀ t : Fin cfg0.N, bCur (grid0.coords t) = B t.val := by decide +kernel
theorem bNext_eq : ∀ t : Fin cfg0.N, bNext (grid0.coords t) = B (t.val + 1) := by decide +kernel
theorem bPrev_eq : ∀ t : Fin cfg0.N, t.val % 8 ≠ 0 → bPrev (grid0.coords t) = B (t.val - 1) := by decide +kernel
theorem sCur_eq : ∀ t : Fin cfg0.N, sCur (grid0.coords t) = Sl t.val := by decide +kernel
theorem sNxt_eq : ∀ t : Fin cfg0.N, sNxt (grid0.coords t) = Sl (t.val + 1) := by decide +kernel

theorem B_val {n : ℕ} (h : n < 16) : (B n).val = n := Nat.mod_eq_of_lt h
theorem B_ne {m n : ℕ} (hm : m < 16) (hn : n < 16) (h : m ≠ n) : B m ≠ B n := fun e => h (by rw [← B_val hm, ← B_val hn, e])
theorem Sl_add2 (n : ℕ) : Sl (n + 2) = Sl n := Fin.ext (by show (n + 2) % 2 = n % 2; omega)

/-! ## The state -/

section State

variable (c : Dev nD) (XA : Buf (Elt F) (inM.view.loc (c : Thread nD τ))) (YA : Buf (Elt F) (outM.view.loc (c : Thread nD τ)))

/-- The image the kernel leaves in block `b` of the result. -/
abbrev res (b : Fin 16) : S64x256x256.Idx → F .f32 := outX (img c XA b)
/-- Block `b` of the result when the images before `n` are done. -/
def outSt (n : ℕ) (b : Fin 16) : sProp 𝕄 := if b.val < n then outL c b (res c XA b) else outP c YA b
/-- Between rows: everything home. -/
def rest (n : ℕ) : sProp 𝕄 :=
  iprop(bigSep Finset.univ (inP c XA) ∗ bigSep Finset.univ (outSt c XA YA n) ∗ (∃ f, slotP c (Sl n) f) ∗ (∃ f, slotP c (Sl (n + 1)) f)
    ∗ cellP c (Sl n) ∗ cellP c (Sl (n + 1)) ∗ ocellP c ∗ ∃ q, qX c q)
/-- Within a row: image `n` on its way in, image `n - 1` on its way out. -/
def mid (n : ℕ) : sProp 𝕄 :=
  iprop(bigSep (Finset.univ.erase (B n)) (inP c XA) ∗ bigSep (Finset.univ.erase (B (n - 1))) (outSt c XA YA n)
    ∗ (∃ f, flyIn c XA (Sl n) (B n) f) ∗ flyOut c YA (Sl (n + 1)) (B (n - 1)) (res c XA (B (n - 1))) ∗ cellP c (Sl (n + 1)) ∗ ∃ q, qX c q)
/-- Before point `n`. -/
def Φ (n : ℕ) : sProp 𝕄 := if n % 8 = 0 then rest c XA YA n else mid c XA YA n

theorem outSt_todo {n : ℕ} {b : Fin 16} (h : n ≤ b.val) : outSt c XA YA n b = outP c YA b := if_neg (by omega)
theorem outSt_done {n : ℕ} {b : Fin 16} (h : b.val < n) : outSt c XA YA n b = outL c b (res c XA b) := if_pos h
theorem outSt_succ {n : ℕ} {b : Fin 16} (h : b.val ≠ n) : outSt c XA YA (n + 1) b = outSt c XA YA n b := by
  unfold outSt
  by_cases h' : b.val < n
  · rw [if_pos h', if_pos (by omega)]
  · rw [if_neg h', if_neg (by omega)]
theorem outs_succ {n : ℕ} (hn : n < 16) {S : Finset (Fin 16)} (hS : B n ∉ S) : bigSep S (outSt c XA YA (n + 1)) = bigSep S (outSt c XA YA n) :=
  bigSep_congr fun b hb => outSt_succ c XA YA fun e => hS (by rwa [show B n = b from Fin.ext ((B_val hn).trans e.symm)])

/-- Two states joined on one block. -/
theorem take {S : Finset (Fin 16)} (P : Fin 16 → sProp 𝕄) {b : Fin 16} (h : b ∈ S) : bigSep S P = iprop(P b ∗ bigSep (S.erase b) P) := bigSep_erase h

theorem mem1 (a : Fin 16) : a ∈ (Finset.univ : Finset (Fin 16)) := Finset.mem_univ _
theorem mem2 {a b : Fin 16} (h : a ≠ b) : a ∈ (Finset.univ : Finset (Fin 16)).erase b := Finset.mem_erase.2 ⟨h, Finset.mem_univ _⟩

/-- One grid point takes the state before it to the state after it. -/
theorem step (t : Fin cfg0.N) (W) (Q : PUnit → sProp 𝕄) :
    iprop((Φ c XA YA t.val ∗ owes (c : Thread nD τ) 0 W) ∗ ((Φ c XA YA (t.val + 1) ∗ ∃ W', owes (c : Thread nD τ) 0 W') -∗ Q ⟨⟩))
    ⊢ wp frame (wpE (defs₀ (F := F)) 𝒱₀ (c : Thread nD τ) none) Set.univ (bodyG (grid0.coords t)) Q := by
  have ht : t.val < 16 := Nat.lt_of_lt_of_eq t.isLt N_0
  have e1 := bCur_eq t; have e2 := bNext_eq t; have e4 := sCur_eq t; have e5 := sNxt_eq t
  by_cases h0 : t.val % 8 = 0
  · -- the first of a row
    have hm : t.val + 1 < 16 := by omega
    have ne : B (t.val + 1) ≠ B t.val := B_ne hm ht (by omega)
    have run := bodyFirst c (grid0.coords t) XA ((cond1_iff t).2 h0) (fun h => (cond2_iff t).1 h h0) ((cond3_iff t).2 (by omega)) (fun h => by have := (cond4_iff t).1 h; omega)
    rw [e1, e2, e4, e5] at run
    unfold Φ
    rw [if_pos h0, if_neg (by omega)]
    unfold rest mid
    rw [Nat.add_sub_cancel, Sl_add2]
    rw [take _ (mem1 (B t.val)), take _ (mem2 ne), take (outSt c XA YA t.val) (mem1 (B t.val)), outSt_todo c XA YA (B_val ht).ge,
      outs_succ c XA YA ht (Finset.notMem_erase _ _), take (S := Finset.univ.erase (B (t.val + 1))) _ (mem2 ne.symm)]
    iintro ⟨⟨⟨⟨Hi, Hn, Hins⟩, ⟨Ho, Houts⟩, ⟨%f0, Hs⟩, ⟨%f1, Ht⟩, Hc, Hd, Hf, ⟨%q, Hq⟩⟩, HW⟩, Hk⟩
    iapply (run YA f0 f1 q W Q)
    isplitr [Hk Hins Houts]
    · isplitl [Hi]; · iexact Hi
      isplitl [Hn]; · iexact Hn
      isplitl [Ho]; · iexact Ho
      isplitl [Hs]; · iexact Hs
      isplitl [Ht]; · iexact Ht
      isplitl [Hc]; · iexact Hc
      isplitl [Hd]; · iexact Hd
      isplitl [Hf]; · iexact Hf
      isplitl [Hq]; · iexact Hq
      iexact HW
    · iintro ⟨Hi, HF, HFo, Hc, Hq, HW⟩
      iapply Hk
      isplitr [HW]
      · isplitl [Hi Hins]
        · isplitl [Hi]; · iexact Hi
          rw [Finset.erase_right_comm]; iexact Hins
        isplitl [Houts]; · iexact Houts
        isplitl [HF]; · iexact HF
        isplitl [HFo]; · iexact HFo
        isplitl [Hc]; · iexact Hc
        iexact Hq
      iexact HW
  · have e3 := bPrev_eq t h0
    have hp : t.val - 1 < 16 := by omega
    have np : B (t.val - 1) ≠ B t.val := B_ne hp ht (by omega)
    have hv : (B (t.val - 1)).val < t.val + 1 := by rw [B_val hp]; omega
    by_cases h7 : t.val % 8 = 7
    · -- the last of a row
      have run := bodyLast c (grid0.coords t) XA (fun h => h0 ((cond1_iff t).1 h)) ((cond2_iff t).2 h0) (fun h => (cond3_iff t).1 h h7) ((cond4_iff t).2 h7)
      rw [e1, e3, e4, e5] at run
      unfold Φ
      rw [if_neg h0, if_pos (by omega)]
      unfold rest mid
      rw [Sl_add2, take (S := Finset.univ) (inP c XA) (mem1 (B t.val)),
        take (S := Finset.univ.erase (B (t.val - 1))) _ (mem2 np.symm), outSt_todo c XA YA (B_val ht).ge,
        take (S := Finset.univ) (outSt c XA YA (t.val + 1)) (mem1 (B t.val)), take (S := Finset.univ.erase (B t.val)) (outSt c XA YA (t.val + 1)) (mem2 np),
        outSt_done c XA YA hv, outSt_done c XA YA (show (B t.val).val < t.val + 1 by rw [B_val ht]; omega),
        outs_succ c XA YA ht (S := (Finset.univ.erase (B t.val)).erase (B (t.val - 1))) (fun h => Finset.notMem_erase _ _ (Finset.mem_of_mem_erase h))]
      iintro ⟨⟨⟨Hins, ⟨Ho, Houts⟩, ⟨%f0, HF⟩, HFo, Hc, ⟨%q, Hq⟩⟩, HW⟩, Hk⟩
      iapply (run (res c XA (B (t.val - 1))) YA YA f0 q W Q)
      isplitr [Hk Hins Houts]
      · isplitl [Ho]; · iexact Ho
        isplitl [HF]; · iexact HF
        isplitl [HFo]; · iexact HFo
        isplitl [Hc]; · iexact Hc
        isplitl [Hq]; · iexact Hq
        iexact HW
      · iintro ⟨Hi, Hop, Ho, Hs, Ht, Hc, Hd, Hf, Hq, HW⟩
        iapply Hk
        isplitr [HW]
        · isplitl [Hi Hins]
          · isplitl [Hi]; · iexact Hi
            iexact Hins
          isplitl [Ho Hop Houts]
          · isplitl [Ho]; · iexact Ho
            isplitl [Hop]; · iexact Hop
            rw [Finset.erase_right_comm]; iexact Houts
          isplitl [Hs]; · iexists _; iexact Hs
          isplitl [Ht]; · iexists _; iexact Ht
          isplitl [Hd]; · iexact Hd
          isplitl [Hc]; · iexact Hc
          isplitl [Hf]; · iexact Hf
          iexact Hq
        iexact HW
    · -- a middle one
      have hm : t.val + 1 < 16 := by omega
      have ne : B (t.val + 1) ≠ B t.val := B_ne hm ht (by omega)
      have run := bodyMid c (grid0.coords t) XA (fun h => h0 ((cond1_iff t).1 h)) ((cond2_iff t).2 h0) ((cond3_iff t).2 h7) (fun h => h7 ((cond4_iff t).1 h))
      rw [e1, e2, e3, e4, e5] at run
      unfold Φ
      rw [if_neg h0, if_neg (by omega)]
      unfold mid
      rw [Nat.add_sub_cancel, Sl_add2, take (S := Finset.univ.erase (B t.val)) (inP c XA) (mem2 ne),
        take (S := Finset.univ.erase (B (t.val - 1))) _ (mem2 np.symm), outSt_todo c XA YA (B_val ht).ge,
        take (S := Finset.univ.erase (B (t.val + 1))) _ (mem2 ne.symm), take (S := Finset.univ.erase (B t.val)) (outSt c XA YA (t.val + 1)) (mem2 np),
        outSt_done c XA YA hv,
        outs_succ c XA YA ht (S := (Finset.univ.erase (B t.val)).erase (B (t.val - 1))) (fun h => Finset.notMem_erase _ _ (Finset.mem_of_mem_erase h))]
      iintro ⟨⟨⟨⟨Hn, Hins⟩, ⟨Ho, Houts⟩, ⟨%f0, HF⟩, HFo, Hc, ⟨%q, Hq⟩⟩, HW⟩, Hk⟩
      iapply (run (res c XA (B (t.val - 1))) YA YA f0 q W Q)
      isplitr [Hk Hins Houts]
      · isplitl [Hn]; · iexact Hn
        isplitl [Ho]; · iexact Ho
        isplitl [HF]; · iexact HF
        isplitl [HFo]; · iexact HFo
        isplitl [Hc]; · iexact Hc
        isplitl [Hq]; · iexact Hq
        iexact HW
      · iintro ⟨Hi, Hop, HF, HFo, Hc, Hq, HW⟩
        iapply Hk
        isplitr [HW]
        · isplitl [Hi Hins]
          · isplitl [Hi]; · iexact Hi
            rw [Finset.erase_right_comm]; iexact Hins
          isplitl [Hop Houts]
          · isplitl [Hop]; · iexact Hop
            rw [Finset.erase_right_comm]; iexact Houts
          isplitl [HF]; · iexact HF
          isplitl [HFo]; · iexact HFo
          isplitl [Hc]; · iexact Hc
          iexact Hq
        iexact HW

end State

end Cert.KernelIdeal.Hand

end
-- ==== Proof.IdealLaunch.lean ====
/-
  The whole run of the kernel: from any memory with zero counters it ends with every block of the result at the image
  scaled, the argument as it was, and every counter at zero.
-/
module

public import proofs.«01_k».proof.Proof.IdealState

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UU nD τ) ℕ

abbrev EP : Emb (UR sig nD τ) (MT nD τ sig Unit (Elt F) ℕ (UU nD τ) ℕ) := embL

theorem entails_of_eq {P Q : sProp 𝕄} (e : P = Q) : P ⊢ Q := e ▸ .rfl

/-! ## Element sets: the arrays' sixteen blocks, the image buffer's two slots -/

abbrev G16 (b : Fin 16) : Finset S16x64x256x256.Idx := (Rect.unit (s := S16x64x256x256) (blkOff b) S1x64x256x256.size (blkOff_inb b)).set
abbrev S2s (s : Fin 2) : Finset S2x64x256x256.Idx := (Rect.unit (s := S2x64x256x256) (slotOff s) S1x64x256x256.size (slotOff_inb s)).set

theorem inb_set (b : Fin 16) : (inb b : Memref sig .tc .hbm _ _).view.set = G16 b := (View.set_reshape _ _).trans (View.set_slice_whole _ _)
theorem outb_set (b : Fin 16) : (outb b : Memref sig .tc .hbm _ _).view.set = G16 b := (View.set_reshape _ _).trans (View.set_slice_whole _ _)
theorem rslot_set (s : Fin 2) : (rslot s : Memref sig .tc .vmem _ _).view.set = S2s s := (View.set_reshape _ _).trans (View.set_slice_whole _ _)

theorem mem_G16 (b : Fin 16) (y : S16x64x256x256.Idx) : y ∈ G16 b ↔ (y 0).val = b.val := by
  rw [Rect.mem_set_unit]
  have h1 : (y 1).val < 64 := (y 1).isLt
  have h2 : (y 2).val < 256 := (y 2).isLt
  have h3 : (y 3).val < 256 := (y 3).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 64; omega
    · show 0 ≤ (y 2).val ∧ (y 2).val < 0 + 256; omega
    · show 0 ≤ (y 3).val ∧ (y 3).val < 0 + 256; omega
theorem mem_S2s (s : Fin 2) (y : S2x64x256x256.Idx) : y ∈ S2s s ↔ (y 0).val = s.val := by
  rw [Rect.mem_set_unit]
  have h1 : (y 1).val < 64 := (y 1).isLt
  have h2 : (y 2).val < 256 := (y 2).isLt
  have h3 : (y 3).val < 256 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 64; omega
    · show 0 ≤ (y 2).val ∧ (y 2).val < 0 + 256; omega
    · show 0 ≤ (y 3).val ∧ (y 3).val < 0 + 256; omega
theorem G16_disjoint : ∀ b b' : Fin 16, b ≠ b' → Disjoint (G16 b) (G16 b') := by
  intro b b' hne; rw [Finset.disjoint_left]; intro y hy hy'; rw [mem_G16] at hy hy'; exact hne (Fin.ext (hy.symm.trans hy'))
theorem G16_cover : (Finset.univ : Finset (Fin 16)).biUnion G16 = Finset.univ := by
  ext y; simp only [Finset.mem_biUnion, Finset.mem_univ, true_and, iff_true]; exact ⟨(y 0).cast (by decide), by rw [mem_G16]; rfl⟩
theorem S2s_disjoint : ∀ s s' : Fin 2, s ≠ s' → Disjoint (S2s s) (S2s s') := by
  intro s s' hne; rw [Finset.disjoint_left]; intro y hy hy'; rw [mem_S2s] at hy hy'; exact hne (Fin.ext (hy.symm.trans hy'))
theorem S2s_cover : (Finset.univ : Finset (Fin 2)).biUnion S2s = Finset.univ := by
  ext y; simp only [Finset.mem_biUnion, Finset.mem_univ, true_and, iff_true]; exact ⟨(y 0).cast (by decide), by rw [mem_S2s]; rfl⟩

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-! ## Whole arrays and their pieces -/

/-- The argument whole is its sixteen blocks. -/
theorem in_eq (c : Dev nD) (XA : Buf (Elt F) (inM.view.loc (c : Thread nD τ))) :
    (((c : Thread nD τ).loc main_arg0) ↦{fullShare} XA : sProp 𝕄) = bigSep Finset.univ (inP c XA) := by
  rw [Ring.pointsTo_blocks (ℓ := (c : Thread nD τ).loc main_arg0) G16 G16_disjoint G16_cover]
  exact bigSep_congr fun b _ => by rw [← inb_set]; rfl
/-- The result whole is its sixteen blocks. -/
theorem out_eq (c : Dev nD) (Y : Buf (Elt F) (outM.view.loc (c : Thread nD τ))) :
    (((c : Thread nD τ).loc main_v0) ↦{fullShare} Y : sProp 𝕄) = bigSep Finset.univ (outP c Y) := by
  rw [Ring.pointsTo_blocks (ℓ := (c : Thread nD τ).loc main_v0) G16 G16_disjoint G16_cover]
  exact bigSep_congr fun b _ => by rw [← outb_set]; rfl

theorem slotP_eq (c : Dev nD) (s : Fin 2) (f) : slotP c s f = (((c : Thread nD τ).loc cc0_scratch0) ↦[S2s s]{fullShare} f : sProp 𝕄) :=
  congrArg (fun S => (_ ↦[S]{fullShare} f : sProp 𝕄)) (rslot_set s)
/-- The image buffer whole is its two slots, and back. -/
theorem buf_split (c : Dev nD) :
    iprop(∃ f : Buf (Elt F) ((c : Thread nD τ).loc cc0_scratch0), ((c : Thread nD τ).loc cc0_scratch0) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) S2s S2s_disjoint S2s_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
theorem buf_join (c : Dev nD) :
    iprop((∃ f, slotP c 0 f) ∗ ∃ f, slotP c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) S2s S2s_disjoint S2s_cover f0)
  irw [bigSep_fin2]
  isplitl [H0]
  · iexists f0; iapply (entails_of_eq (slotP_eq c 0 f0)); iexact H0
  · iexists f1; iapply (entails_of_eq (slotP_eq c 1 f1)); iexact H1

theorem qP_eq (c : Dev nD) (f : Buf (Elt F) ((c : Thread nD τ).loc cc0_scratch1)) :
    (((c : Thread nD τ).loc cc0_scratch1) ↦{fullShare} f : sProp 𝕄) = (qM.view.loc (c : Thread nD τ) ↦[qM.view.set]{fullShare} f) :=
  congrArg (fun S => (_ ↦[S]{fullShare} f : sProp 𝕄)) (View.set_whole cc0_scratch1).symm
/-- The bin-number buffer at some contents holds some bin numbers, and back. -/
theorem q_split (c : Dev nD) :
    iprop(∃ f : Buf (Elt F) ((c : Thread nD τ).loc cc0_scratch1), ((c : Thread nD τ).loc cc0_scratch1) ↦{fullShare} f) ⊢ (iprop(∃ q, qX c q) : sProp 𝕄) := by
  iintro ⟨%f, H⟩
  ihave H2 := (entails_of_eq (qP_eq c f)) $$ H
  ihave H3 := (pointsTo_rep_entails (c : Thread nD τ) qM f fullShare) $$ H2
  iexists _; iexact H3
theorem q_join (c : Dev nD) :
    (iprop(∃ q, qX c q) : sProp 𝕄) ⊢ iprop(∃ f : Buf (Elt F) ((c : Thread nD τ).loc cc0_scratch1), ((c : Thread nD τ).loc cc0_scratch1) ↦{fullShare} f) := by
  iintro ⟨%q, H⟩
  ihave H2 := (entails_of_eq (qP_eq c _).symm) $$ H
  iexists _; iexact H2

/-! ## What the result array holds -/

/-- An element's place within its image. -/
def inImg (y : S16x64x256x256.Idx) : S64x256x256.Idx := fun a => match a with
  | ⟨0, _⟩ => y 1
  | ⟨1, _⟩ => y 2
  | ⟨2, _⟩ => y 3
/-- The image an element lies in. -/
def imgOf (y : S16x64x256x256.Idx) : Fin 16 := y 0
/-- What the kernel leaves in the result array. -/
def resBuf (c : Dev nD) (XA : Buf (Elt F) (inM.view.loc (c : Thread nD τ))) : Buf (Elt F) (outM.view.loc (c : Thread nD τ)) :=
  fun y => res c XA (imgOf y) (inImg y)

/-- Where the element `z` of block `b` lies. -/
def at4 (b : Fin 16) (z : S64x256x256.Idx) : S16x64x256x256.Idx := fun a => match a with
  | ⟨0, _⟩ => b
  | ⟨1, _⟩ => z 0
  | ⟨2, _⟩ => z 1
  | ⟨3, _⟩ => z 2
theorem emb_at (b : Fin 16) (z : S64x256x256.Idx) : (outb b : Memref sig .tc .hbm _ _).view.emb z = at4 b z := by
  have e : (Shape.reshapeEquiv squeezes_S1x64x256x256_S64x256x256.numel_eq z : S1x64x256x256.Idx) = Fin.cons ⟨0, Nat.one_pos⟩ z := Shape.reshapeEquiv_cons_one (n := 3) _ z
  show (Rect.unit (s := S16x64x256x256) (blkOff b) S1x64x256x256.size (blkOff_inb b)).idx (Shape.reshapeEquiv squeezes_S1x64x256x256_S64x256x256.numel_eq z) = _
  rw [e]
  funext a; refine Fin.ext ?_
  fin_cases a
  · show b.val + 1 * 0 = b.val; omega
  · show 0 + 1 * (z 0).val = (z 0).val; omega
  · show 0 + 1 * (z 1).val = (z 1).val; omega
  · show 0 + 1 * (z 2).val = (z 2).val; omega
theorem img_apply (c : Dev nD) (XA : Buf (Elt F) (inM.view.loc (c : Thread nD τ))) (b : Fin 16) (z : S64x256x256.Idx) : img c XA b z = XA (at4 b z) :=
  congrArg XA (emb_at b z)

theorem read_resBuf (c : Dev nD) (XA : Buf (Elt F) (inM.view.loc (c : Thread nD τ))) (b : Fin 16) : (outb b).view.read (Elt F) (resBuf c XA) = res c XA b := by
  funext z
  have h : (outb b).view.read (Elt F) (resBuf c XA) z = resBuf c XA (at4 b z) := congrArg (resBuf c XA) (emb_at b z)
  rw [h]
  have e : inImg (at4 b z) = z := by funext a; fin_cases a <;> rfl
  unfold resBuf
  rw [e]; rfl

theorem outL_res (c : Dev nD) (XA : Buf (Elt F) (inM.view.loc (c : Thread nD τ))) (b : Fin 16) : (outL c b (res c XA b) : sProp 𝕄) ⊢ outP c (resBuf c XA) b := by
  iintro ⟨%Y, H⟩
  ihave H2 := (entails_of_eq (pointsTo_writes_whole_rebase (Ix := Unit) (Name := ℕ) (U := UU nD τ) (Lvl := ℕ) (c : Thread nD τ) (outb b) Y (outb b).view.junk (res c XA b) fullShare)) $$ H
  iapply (entails_of_eq (pointsTo_rep (Ix := Unit) (Name := ℕ) (U := UU nD τ) (Lvl := ℕ) (c : Thread nD τ) (outb b) (resBuf c XA) fullShare).symm)
  rw [read_resBuf]
  iexact H2

/-- Between rows all sixteen images done, the result array holds `resBuf`. -/
theorem outs_done (c : Dev nD) (XA : Buf (Elt F) (inM.view.loc (c : Thread nD τ))) (YA : Buf (Elt F) (outM.view.loc (c : Thread nD τ))) :
    (bigSep Finset.univ (outSt c XA YA 16) : sProp 𝕄) ⊢ ((c : Thread nD τ).loc main_v0) ↦{fullShare} resBuf c XA := by
  rw [out_eq]
  exact bigSep_mono fun b _ => by rw [outSt_done c XA YA b.isLt]; exact outL_res c XA b
theorem outs_todo (c : Dev nD) (XA : Buf (Elt F) (inM.view.loc (c : Thread nD τ))) (YA : Buf (Elt F) (outM.view.loc (c : Thread nD τ))) :
    (((c : Thread nD τ).loc main_v0) ↦{fullShare} YA : sProp 𝕄) = bigSep Finset.univ (outSt c XA YA 0) := by
  rw [out_eq]
  exact bigSep_congr fun b _ => (outSt_todo c XA YA (Nat.zero_le _)).symm

/-! ## The launch -/

section Launch

variable (m : (ℓ : Loc nD τ sig) → Buf (Elt F) ℓ) (ρ : Dev nD → PrngReg)

/-- The argument and the result array at launch. -/
abbrev XA0 (c : Dev nD) : Buf (Elt F) (inM.view.loc (c : Thread nD τ)) := m ((c : Thread nD τ).loc main_arg0)
abbrev YA0 (c : Dev nD) : Buf (Elt F) (outM.view.loc (c : Thread nD τ)) := m ((c : Thread nD τ).loc main_v0)

/-- The kernel's own semaphores. -/
abbrev osem : Fin 3 → SemLoc sig := fun | 0 => .dma (csm 0).sem | 1 => .dma (csm 1).sem | 2 => .dma cc0_scratch3.sem
theorem ownSemFacts : Pipeline.OwnSemFacts cfg0.spec osem := by decide

theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1 ∗ ocellP c) := by
  unfold Pipeline.ownSems0
  exact bigSep_univ_eq_bigSepL [(0 : Fin 3), (1 : Fin 3), (2 : Fin 3)] (by decide) (by decide) _

def dats (_ : Fin 1) (c : Dev nD) : Dat τ (Elt F) Unit ℕ (UU nD τ) ℕ cfg0 c where
  A w := w.elim0
  after w t := w.elim0
  Φ t := Φ c (XA0 m c) (YA0 m c) t.val
  q _ := fullShare
  owed _ := 0

theorem defs_tc : (defs₀ (F := F)) .tc cfg0.body = fun a => bodyG (F := F) (grid0.coords a.1) := rfl
theorem prog_eq (t : Fin cfg0.N) : (defs₀ (F := F)) .tc cfg0.body (cfg0.bodyArgs t (cfg0.slots t)) = bodyG (grid0.coords t) :=
  (congrFun defs_tc _).trans rfl

theorem bigSep_W (P : Fin cfg0.W → sProp 𝕄) : bigSep Finset.univ P = (BI.emp : sProp 𝕄) := by
  rw [show (Finset.univ : Finset (Fin cfg0.W)) = ∅ from rfl, bigSep_empty]

set_option backward.isDefEq.respectTransparency.types false in
theorem body_obligation (c : Dev nD) : BodyObligation (dats (F := F) m 0 c) (defs₀ (F := F)) 𝒱₀ () Set.univ := fun t => by
  rw [bigSep_W, bigSep_W]
  dsimp only
  rw [show (dats m 0 c).Φ t.castSucc = Φ c (XA0 m c) (YA0 m c) t.val from rfl, show (dats m 0 c).Φ t.succ = Φ c (XA0 m c) (YA0 m c) (t.val + 1) from rfl]
  unfold Dat.owesAt Pipeline.owesWithin
  rw [show (dats m 0 c).owed t.castSucc = 0 from rfl, show (dats m 0 c).owed t.succ = 0 from rfl]
  iintro ⟨HΦ, ⟨%W, -, HW⟩, -⟩
  sl_rw [prog_eq t]
  iapply (step c (XA0 m c) (YA0 m c) t W)
  isplitl [HΦ HW]
  · isplitl [HΦ]; · iexact HΦ
    iexact HW
  · iintro ⟨HΦ, ⟨%W', HW⟩⟩
    isplitl [HΦ]; · iexact HΦ
    isplitl [HW]
    · iexists W'; isplitr; · ipureintro; exact fun _ _ => Or.inl trivial
      iexact HW
    iempintro

def intoΦ (c : Dev nD) : sProp 𝕄 :=
  iprop((((c : Thread nD τ).loc main_arg0) ↦{fullShare} XA0 m c) ∗ (((c : Thread nD τ).loc main_v0) ↦{fullShare} YA0 m c) ∗ Pipeline.ownSems0 osem c)
def outOfΦ (c : Dev nD) : sProp 𝕄 :=
  iprop((((c : Thread nD τ).loc main_arg0) ↦{fullShare} XA0 m c) ∗ (((c : Thread nD τ).loc main_v0) ↦{fullShare} resBuf c (XA0 m c)))
def u₀ : UU nD τ := (initOf (Pipeline.cells cfgs Cert.KernelIdeal.Gen.cellOf_inj) (Pipeline.launchToks cfgs Cert.KernelIdeal.Gen.cellOf_inj), 1)
def QY (c : Dev nD) (s : MemSt nD τ sig (Elt F)) : Prop :=
  s.mem ((c : Thread nD τ).loc main_arg0) = XA0 m c ∧ s.mem ((c : Thread nD τ).loc main_v0) = resBuf c (XA0 m c)

set_option backward.isDefEq.respectTransparency.types false in
/-- For any float values, from any memory with zero counters: every weakly fair execution terminates, with the argument
    unchanged, the result at `resBuf`, and every semaphore counter at zero. -/
theorem run_main : θ_run defs (onTc (τ := τ) (main (F := F))) (s₀ m ρ) (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ w => w.elim0)
    (X := intoΦ m) (Y := outOfΦ m) (Z := fun _ => iprop(emp))
    (hX := fun c => by
      rw [unscopedRest0_eq]
      unfold intoΦ
      iintro ⟨⟨H0, H1⟩, HS, -, -, -⟩; imodintro
      isplitl [H0 H1 HS]
      · isplitl [H0]; · iexact H0
        isplitl [H1]; · iexact H1
        iexact HS
      iempintro)
    (hin := fun c => by
      rw [scopedRest0_eq, show (dats m 0 c).Φ 0 = Φ c (XA0 m c) (YA0 m c) 0 from rfl]
      unfold intoΦ Φ; rw [if_pos (by decide), ownSems0_eq]
      unfold rest
      rw [in_eq, outs_todo c (XA0 m c)]
      iintro ⟨⟨H0, H1, Hc0, Hc1, Hc2⟩, Hb, Hq⟩
      ihave Hs := (buf_split c) $$ Hb
      icases Hs with ⟨Hs0, Hs1⟩
      ihave Hq' := (q_split c) $$ Hq
      isplitl [H0]; · iexact H0
      isplitl [H1]; · iexact H1
      isplitl [Hs0]; · iexact Hs0
      isplitl [Hs1]; · iexact Hs1
      isplitl [Hc0]; · iexact Hc0
      isplitl [Hc1]; · iexact Hc1
      isplitl [Hc2]; · iexact Hc2
      iexact Hq')
    (hout := fun c => by
      rw [scopedRest0_eq, show (dats m 0 c).Φ (Fin.last cfg0.N) = Φ c (XA0 m c) (YA0 m c) 16 from rfl, ownSems0_eq]
      unfold Φ outOfΦ; rw [if_pos (by decide)]
      unfold rest
      rw [in_eq]
      iintro ⟨H0, H1, Hs0, Hs1, Hc0, Hc1, Hc2, Hq⟩
      ihave H1' := (outs_done c (XA0 m c) (YA0 m c)) $$ H1
      ihave Hq' := (q_join c) $$ Hq
      isplitl [H0 H1']
      · isplitl [H0]; · iexact H0
        iexact H1'
      isplitl [Hc0 Hc1 Hc2]
      · isplitl [Hc0]; · iexact Hc0
        isplitl [Hc1]; · iexact Hc1
        iexact Hc2
      isplitl [Hs0 Hs1]
      · iapply (buf_join c)
        isplitl [Hs0]; · iexact Hs0
        iexact Hs1
      iexact Hq')
    (QY := QY m)
    (hY := fun c s' => by
      unfold outOfΦ
      iintro ⟨⟨H0, H1⟩, -, HSI⟩
      icombine HSI H0 gives %h0
      icombine HSI H1 gives %h1
      imodintro
      isplitr; · ipureintro; exact ⟨Buf.eq_of_forall_mem_univ h0, Buf.eq_of_forall_mem_univ h1⟩
      iexact HSI)
    (hQ := fun _ hh hz => ⟨fun c => (hh c).2, hz⟩)

end Launch

end Cert.KernelIdeal.Hand

end
-- ==== Proof.Frames.lean ====
/-
  The frames of the three programs, and the one named constant.
-/
module

public import proofs.«01_k».proof.Proof.KernelLaunch
public import proofs.«01_k».proof.Proof.IdealLaunch
public import proofs.«01_k».proof.Proof.Gen.ReferenceIdeal.Run

@[expose] public section

noncomputable section

namespace Cert.Proof

open Idealize.ShloMosaic Idealize.SL.Sem

/-- The kernel terminates, leaves its argument as it was and every counter at zero. -/
theorem frame_kernel : Cert.quiescent_Kernel := fun m ρ _ =>
  (θ_run Cert.Kernel.defs _ _).mono (fun _ h => ⟨fun c => (h.1 c).1, h.2⟩) (Cert.Kernel.Hand.run_main (F := Bits) m ρ)

/-- So does the kernel over the extended reals. -/
theorem frame_kernelIdeal : Cert.quiescent_KernelIdeal := fun m ρ _ =>
  (θ_run Cert.KernelIdeal.defs _ _).mono (fun _ h => ⟨fun c => (h.1 c).1, h.2⟩) (Cert.KernelIdeal.Hand.run_main (F := Ideal) m ρ)

/-- And so does the reference; it declares no semaphore. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The constant `1/255` as the kernel writes it is the rounded one its name stands for. -/
theorem preserves : Cert.preserves_Kernel_KernelIdeal :=
  IdealRules.named_const.statement Cert.KernelIdeal.κ "inv255" .f32 0x3B808081#32 ((255⁻¹ : ℝ) : EReal) rfl

end Cert.Proof

end
-- ==== Proof.Spec.lean ====
module

public import Idealize.ShloMosaic.Lib.Pointwise
public import Idealize.ShloMosaic.Lib.IdealHost

@[expose] public section

/-!
# What one image becomes

An image is 64 channels of 256 × 256 values. Every pixel is compared with the image's mean direction,
the comparison is cut into 256 bins, the bins' histogram is equalised, and the pixel is scaled by its
bin's new value. The kernel and the reference are each shown to compute `val` below.
-/

noncomputable section

namespace Cert.Maths

open Idealize.ShloMosaic

/-- The least length a direction is divided by. -/
def eps : EReal := Ideal.ofBits .f32 0x2B8CBCCC#32
/-- How many pixels an image has. -/
def total : EReal := Ideal.ofBits .f32 0x47800000#32
/-- The greatest bin number. -/
def top : EReal := Ideal.ofBits .f32 0x437F0000#32

/-- An image. -/
abbrev Image := Fin 64 → Fin 256 → Fin 256 → EReal

/-- A vector's length, at least `eps`. -/
def len (f : Fin 64 → EReal) : EReal := max (Ideal.sqrt (∑ c, f c * f c)) eps
/-- The mean of a channel. -/
def mean (X : Image) (c : Fin 64) : EReal := Ideal.div (∑ h, ∑ w, X c h w) total
/-- The direction of the means. -/
def dir (X : Image) (c : Fin 64) : EReal := Ideal.div (mean X c) (len (mean X))
/-- A pixel's comparison with the mean direction. -/
def cosv (X : Image) (h w : Fin 256) : EReal := Ideal.div (∑ c, X c h w * dir X c) (len fun c => X c h w)
/-- The comparison cut to a word. -/
def word (X : Image) (h w : Fin 256) : BitVec 32 := Ideal.fptosi 32 (cosv X h w * top)
/-- A word's bin. -/
def binOf (v : BitVec 32) : Fin 256 := ⟨v.toNat % 256, Nat.mod_lt _ (by decide)⟩
/-- A pixel's bin. -/
def bin (X : Image) (h w : Fin 256) : Fin 256 := binOf (word X h w)
/-- How many pixels fall into a bin. -/
def cnt (X : Image) (n : Fin 256) : EReal := ∑ h, ∑ w, if bin X h w = n then 1 else 0
/-- How many pixels fall into a bin or one before it. -/
def cum (X : Image) (n : Fin 256) : EReal := ∑ m, if m ≤ n then cnt X m else 0
/-- The running count at the first bin in use. -/
def low (X : Image) : EReal := Finset.univ.fold min ⊤ fun n => if 0 < cnt X n then cum X n else total + 1
/-- A bin's new value. -/
def lut (X : Image) (n : Fin 256) : EReal :=
  min top (max 0 (Ideal.liftRound Ideal.roundHalfEven ((cum X n - low X) * Ideal.div top (max (total - low X) 1))))
/-- The image scaled by its pixels' new values. -/
def val (X : Image) (c : Fin 64) (h w : Fin 256) : EReal := Ideal.div (lut X (bin X h w)) top * X c h w

/-! ## The constants -/

theorem top_eq : top = ((255 : ℝ) : EReal) := by
  simp [top, Ideal.ofBits, Ideal.ieee, -EReal.coe_mul]; norm_num
theorem eps_pos : 0 < eps := by
  have : eps = ((9223372 * (2 : ℝ) ^ (-63 : ℤ) : ℝ) : EReal) := by
    simp [eps, Ideal.ofBits, Ideal.ieee, -EReal.coe_mul]
  rw [this]; exact EReal.coe_pos.mpr (by positivity)
theorem inf_eq : Ideal.ofBits .f32 0x7F800000#32 = ⊤ := by
  simp [Ideal.ofBits, Ideal.ieee]

theorem len_pos (f : Fin 64 → EReal) : 0 < len f := lt_of_lt_of_le eps_pos (le_max_right _ _)

/-! ## Division -/

/-- An inverse is never the greatest value. -/
theorem inv_ne_top (n : EReal) : n⁻¹ ≠ ⊤ := by
  induction n with
  | bot => simp
  | top => simp
  | coe r => rw [← EReal.coe_inv]; exact EReal.coe_ne_top _

theorem div_of_pos {n : EReal} (hn : 0 < n) (x : EReal) : Ideal.div x n = x * n⁻¹ := by
  unfold Ideal.div; rw [if_neg hn.ne']

/-- A finite factor that is not negative passes through a sum. -/
theorem sum_mul_of_nonneg {ι : Type} (s : Finset ι) (f : ι → EReal) {r : EReal} (h0 : 0 ≤ r) (ht : r ≠ ⊤) :
    (∑ k ∈ s, f k) * r = ∑ k ∈ s, f k * r := by
  classical
  induction s using Finset.induction_on with
  | empty => simp
  | insert a s ha ih => rw [Finset.sum_insert ha, Finset.sum_insert ha, EReal.right_distrib_of_nonneg_of_ne_top h0 ht, ih]

/-- Dividing every term by a positive length divides the sum. -/
theorem sum_div {n : EReal} (hn : 0 < n) (f g : Fin 64 → EReal) :
    ∑ c, g c * Ideal.div (f c) n = Ideal.div (∑ c, f c * g c) n := by
  rw [div_of_pos hn, sum_mul_of_nonneg _ _ (EReal.inv_nonneg_of_nonneg hn.le) (inv_ne_top n)]
  refine Finset.sum_congr rfl fun c _ => ?_
  rw [div_of_pos hn, ← mul_assoc, mul_comm (g c)]

end Cert.Maths

end
-- ==== Proof.Words.lean ====
module

public import proofs.«01_k».proof.Proof.Spec
public import Idealize.ShloMosaic.Lib.Affine
public import Idealize.ShloMosaic.Lib.WordCmp
public import Idealize.ShloMosaic.Lib.StableHlo.Predicate

@[expose] public section

/-!
# Words

How the two programs cut a value to a word and take a word's bin.
-/

noncomputable section

namespace Cert.Maths

open Idealize.ShloMosaic

/-- Cutting after rounding toward zero is cutting. -/
theorem fptosi_trunc (v : EReal) :
    Ideal.fptosi 32 (if v < 0 then Ideal.liftRound Int.ceil v else Ideal.liftRound Int.floor v) = Ideal.fptosi 32 v := by
  induction v with
  | bot => simp
  | top => simp
  | coe r =>
    by_cases h : r < 0
    · rw [if_pos (by exact_mod_cast h)]
      have h1 : ¬ (0 : ℝ) ≤ r := not_le.mpr h
      have h2 : (⌈r⌉ : ℝ) ≤ 0 := by exact_mod_cast Int.ceil_le.mpr (by simpa using h.le)
      simp only [Ideal.liftRound_coe, Ideal.fptosi, Ideal.toIntClamped_coe, if_neg h1]
      by_cases h3 : (0 : ℝ) ≤ (⌈r⌉ : ℝ)
      · rw [if_pos h3, Int.floor_intCast]
      · rw [if_neg h3, Int.ceil_intCast]
    · rw [if_neg (by exact_mod_cast h)]
      have h1 : (0 : ℝ) ≤ r := not_lt.mp h
      have h2 : (0 : ℝ) ≤ (⌊r⌋ : ℝ) := by exact_mod_cast Int.floor_nonneg.mpr h1
      simp only [Ideal.liftRound_coe, Ideal.fptosi, Ideal.toIntClamped_coe, if_pos h1, if_pos h2, Int.floor_intCast]

/-- The kernel's bin of a word. -/
theorem bin_kernel (v : BitVec 32) : IntOp.andi (IntOp.addi v 256#32) 255#32 = BitVec.ofNat 32 (binOf v).val := by
  apply BitVec.eq_of_toNat_eq
  show ((v + 256#32) &&& 255#32).toNat = _
  rw [BitVec.toNat_and, BitVec.toNat_add, BitVec.toNat_ofNat]
  have := Nat.and_two_pow_sub_one_eq_mod ((v.toNat + (256#32).toNat) % 2 ^ 32) 8
  simp only [binOf] at this ⊢
  simp at this ⊢
  rw [this]; omega

/-- The reference's bin of a word: the signed remainder, moved up when negative. -/
theorem bin_reference (v : BitVec 32) :
    Scalar.select
      (IntOp.andi
        (IntOp.cmpi .ne (IntOp.cmpi .slt (IntOp.remsi .host v 256#32) 0#32) (IntOp.cmpi .slt (256#32) 0#32))
        (IntOp.cmpi .ne (IntOp.remsi .host v 256#32) 0#32))
      (IntOp.addi (IntOp.remsi .host v 256#32) 256#32) (IntOp.remsi .host v 256#32)
      = BitVec.ofNat 32 (binOf v).val := by
  rw [IntOp.remsi_of_pos .host (by decide)]
  have hs : (v.srem 256#32).toInt = v.toInt.tmod 256 := BitVec.toInt_srem v 256#32
  have hv := BitVec.toInt_eq_toNat_cond v
  have hlt := v.isLt
  rw [Int.tmod_eq_emod] at hs
  have e0 : IntOp.cmpi .slt (256#32) 0#32 = 0#1 := by decide
  rw [e0]
  generalize hg : v.srem 256#32 = s at hs ⊢
  have hbn : (BitVec.ofNat 32 (binOf v).val).toInt = (v.toNat % 256 : ℕ) := by
    rw [StableHlo.Predicate.toInt_ofNat_small _ (by have := (binOf v).isLt; omega)]; rfl
  by_cases h0 : s.toInt < 0
  · have hc : IntOp.cmpi .slt s 0#32 = 1#1 := by
      show BitVec.ofBool (s.slt 0#32) = 1#1
      rw [BitVec.slt_eq_decide]; simp [h0]
    have hne : IntOp.cmpi .ne s 0#32 = 1#1 := by
      have hn : s ≠ 0#32 := by rintro rfl; simp at h0
      show BitVec.ofBool (s != 0#32) = 1#1
      rw [bne_iff_ne.mpr hn]; rfl
    rw [hc, hne]
    show s + 256#32 = _
    apply BitVec.eq_of_toInt_eq
    rw [BitVec.toInt_add, hbn]
    have : (256#32).toInt = 256 := by decide
    rw [this, Int.bmod_def]
    split at hs <;> split at hv <;> omega
  · have hc : IntOp.cmpi .slt s 0#32 = 0#1 := by
      show BitVec.ofBool (s.slt 0#32) = 0#1
      rw [BitVec.slt_eq_decide]; simp [h0]
    rw [hc]
    have : IntOp.andi (IntOp.cmpi .ne (0#1) (0#1)) (IntOp.cmpi .ne s 0#32) = 0#1 := by
      have : IntOp.cmpi .ne (0#1) (0#1) = 0#1 := by decide
      rw [this]; exact BitVec.zero_and
    rw [this]
    show s = _
    apply BitVec.eq_of_toInt_eq
    rw [hbn]
    split at hs <;> split at hv <;> omega

/-- A small number read as a value. -/
theorem sitofp_small (n : ℕ) (h : n < 256) : FloatOps.sitofp (F := Ideal) .f32 (BitVec.ofNat 32 n) = ((n : ℝ) : EReal) := by
  show (((BitVec.ofNat 32 n).toInt : ℝ) : EReal) = _
  rw [StableHlo.Predicate.toInt_ofNat_small _ (by omega)]; simp

/-- A small number's value cut back to a word. -/
theorem fptosi_small (n : ℕ) (h : n < 256) : Ideal.fptosi 32 ((n : ℝ) : EReal) = BitVec.ofNat 32 n := by
  unfold Ideal.fptosi
  have : Ideal.toIntClamped (-(2 ^ (32 - 1) : ℕ)) ((2 ^ (32 - 1) : ℕ) - 1) ((n : ℝ) : EReal) = (n : ℤ) := by
    show max _ (min _ (if (0 : ℝ) ≤ (n : ℝ) then _ else _)) = _
    rw [if_pos (Nat.cast_nonneg n), Int.floor_natCast]
    norm_num; omega
  rw [this]; simp

/-- The upper digit of a small number. -/
theorem hi_small (n : Fin 256) : IntOp.shrsi .vector (BitVec.ofNat 32 n.val) 4#32 = BitVec.ofNat 32 (n.val / 16) := by
  revert n; decide +kernel
/-- The lower digit of a small number. -/
theorem lo_small (n : Fin 256) : IntOp.andi (BitVec.ofNat 32 n.val) 15#32 = BitVec.ofNat 32 (n.val % 16) := by
  revert n; decide +kernel

/-- Small numbers are equal as words exactly when they are equal. -/
theorem ofNat_eq_small {a b : ℕ} (ha : a < 65536) (hb : b < 65536) : (BitVec.ofNat 32 a = BitVec.ofNat 32 b) ↔ a = b := by
  constructor
  · intro h
    have := congrArg BitVec.toNat h
    rw [BitVec.toNat_ofNat, BitVec.toNat_ofNat] at this; omega
  · rintro rfl; rfl

/-- A choice by the equality of two small numbers. -/
theorem pick_eq {α : Type} {a b : ℕ} (ha : a < 65536) (hb : b < 65536) (x y : α) :
    Scalar.select (IntOp.cmpi .eq (BitVec.ofNat 32 a) (BitVec.ofNat 32 b)) x y = if a = b then x else y := by
  rw [WordCmp.cmpi_eq_eq, WordCmp.select_decide]
  exact if_congr (ofNat_eq_small ha hb) rfl rfl

end Cert.Maths

end
-- ==== Proof.Sums.lean ====
module

public import proofs.«01_k».proof.Proof.Spec

@[expose] public section

/-!
# Numbers by their two digits, and sums over them

A number below 256 is written by two digits below 16.
-/

noncomputable section

namespace Cert.Maths

/-- A number's lower digit. -/
abbrev lo (i : Fin 256) : Fin 16 := ⟨i.val % 16, Nat.mod_lt _ (by decide)⟩
/-- A number's upper digit. -/
abbrev hi (i : Fin 256) : Fin 16 := ⟨i.val / 16, by have := i.isLt; omega⟩
/-- The number with upper digit `a` and lower digit `r`. -/
def num (a r : Fin 16) : Fin 256 := ⟨16 * a.val + r.val, by have := a.isLt; have := r.isLt; omega⟩

theorem num_div (a r : Fin 16) : (num a r).val / 16 = a.val := by simp only [num]; omega
theorem num_mod (a r : Fin 16) : (num a r).val % 16 = r.val := by simp only [num]; omega
theorem hi_num (a r : Fin 16) : hi (num a r) = a := Fin.ext (num_div a r)
theorem lo_num (a r : Fin 16) : lo (num a r) = r := Fin.ext (num_mod a r)
theorem num_hi_lo (i : Fin 256) : num (hi i) (lo i) = i := Fin.ext (show 16 * (i.val / 16) + i.val % 16 = i.val by omega)

/-- The numbers are the pairs of digits. -/
def numEquiv : Fin 16 × Fin 16 ≃ Fin 256 where
  toFun p := num p.1 p.2
  invFun i := (hi i, lo i)
  left_inv p := Prod.ext (hi_num _ _) (lo_num _ _)
  right_inv i := num_hi_lo i

/-- A sum over the numbers is a sum over the digits. -/
theorem sum_num (f : Fin 256 → EReal) : ∑ i, f i = ∑ a, ∑ r, f (num a r) := by
  rw [← numEquiv.sum_comp f, Fintype.sum_prod_type]; rfl

/-- A sum over the numbers with one upper digit. -/
theorem sum_hi (a : Fin 16) (f : Fin 256 → EReal) : (∑ i, if a.val = i.val / 16 then f i else 0) = ∑ r, f (num a r) := by
  rw [sum_num, Finset.sum_eq_single a]
  · exact Finset.sum_congr rfl fun r _ => if_pos (num_div a r).symm
  · intro b _ hb
    refine Finset.sum_eq_zero fun r _ => if_neg fun h => hb (Fin.ext ?_)
    rw [num_div] at h; exact h.symm
  · intro h; exact absurd (Finset.mem_univ a) h

/-- A sum with one term left. -/
theorem sum_one {ι : Type} [Fintype ι] [DecidableEq ι] (a : ι) (p : ι → Prop) [DecidablePred p] (hp : ∀ i, p i ↔ i = a) (f : ι → EReal) :
    (∑ i, if p i then f i else 0) = f a := by
  rw [Finset.sum_congr rfl fun i _ => if_congr (hp i) rfl rfl, Finset.sum_ite_eq' Finset.univ a f, if_pos (Finset.mem_univ a)]

/-- A running sum after its last step. -/
theorem acc_sum : ∀ (N : ℕ) (a : ℕ → EReal) (g : Fin N → EReal), a 0 = 0 → (∀ k : Fin N, a (k.val + 1) = a k.val + g k) → a N = ∑ k, g k
  | 0, a, g, h0, _ => by rw [h0]; simp
  | N + 1, a, g, h0, hs => by
    rw [Fin.sum_univ_castSucc, ← acc_sum N a (fun k => g k.castSucc) h0 (fun k => hs k.castSucc)]
    exact hs (Fin.last N)

/-- The least value over the numbers is the least over the digits. -/
theorem min_num (f : Fin 256 → EReal) :
    (Finset.univ.fold min ⊤ fun a : Fin 16 => Finset.univ.fold min ⊤ fun r : Fin 16 => f (num a r)) = Finset.univ.fold min ⊤ f := by
  show (Finset.univ.inf fun a : Fin 16 => Finset.univ.inf fun r : Fin 16 => f (num a r)) = Finset.univ.inf f
  apply le_antisymm
  · refine Finset.le_inf fun i _ => ?_
    rw [← num_hi_lo i]
    exact (Finset.inf_le (Finset.mem_univ (hi i))).trans (Finset.inf_le (f := fun r => f (num (hi i) r)) (Finset.mem_univ (lo i)))
  · exact Finset.le_inf fun a _ => Finset.le_inf fun r _ => Finset.inf_le (Finset.mem_univ _)

/-- The running count by the digits: the digits up to `b` under `a`, and all those under the digits before `a`. -/
theorem cum_num (c : Fin 256 → EReal) (a b : Fin 16) :
    (∑ r, if r.val ≤ b.val then c (num a r) else 0) + (∑ y, if y.val < a.val then ∑ r, c (num y r) else 0)
      = ∑ m, if m ≤ num a b then c m else 0 := by
  rw [sum_num, ← sum_one a (fun y => y = a) (fun _ => Iff.rfl) (fun y => ∑ r, if r.val ≤ b.val then c (num y r) else 0), ← Finset.sum_add_distrib]
  refine Finset.sum_congr rfl fun y _ => ?_
  have key : ∀ r : Fin 16, num y r ≤ num a b ↔ 16 * y.val + r.val ≤ 16 * a.val + b.val := fun r => Iff.rfl
  have hb := b.isLt
  rcases lt_trichotomy y.val a.val with h | h | h
  · rw [if_neg (fun e => by rw [e] at h; exact lt_irrefl _ h), if_pos h, zero_add]
    exact Finset.sum_congr rfl fun r _ => (if_pos ((key r).mpr (by have := r.isLt; omega))).symm
  · have e : y = a := Fin.ext h
    rw [if_pos e, if_neg (by omega), add_zero]
    exact Finset.sum_congr rfl fun r _ => if_congr (by rw [key]; omega) rfl rfl
  · rw [if_neg (fun e => by rw [e] at h; exact lt_irrefl _ h), if_neg (by omega), zero_add]
    exact (Finset.sum_eq_zero fun r _ => if_neg (by rw [key]; omega)).symm

end Cert.Maths

end
-- ==== Proof.IdealMasks.lean ====
module

public import proofs.«01_k».proof.Proof.IdealPoint
public import proofs.«01_k».proof.Proof.Words
public import proofs.«01_k».proof.Proof.Sums

@[expose] public section

/-!
# The kernel's labels, masks and one-hot rows

The kernel works on 256 × 256 tables. Row `16 a + r` of a table belongs to the digit `a` and to the row
`r` of a chunk; the bin numbers of a chunk are repeated sixteen times to fill the table's rows.
-/

set_option maxRecDepth 16384

noncomputable section

namespace Cert.KernelIdeal.Hand

open Cert.KernelIdeal Cert.KernelIdeal.Gen
open Idealize.ShloMosaic Idealize.ShloMosaic.TcCoe Cert.Maths

/-- Sixteen rows repeated sixteen times. -/
def tile (v : IVec S16x256 32) : IVec S256x256 32 :=
  concatenate S256x256 0 [⟨S16x256, v⟩, ⟨S16x256, v⟩, ⟨S16x256, v⟩, ⟨S16x256, v⟩, ⟨S16x256, v⟩, ⟨S16x256, v⟩, ⟨S16x256, v⟩, ⟨S16x256, v⟩, ⟨S16x256, v⟩, ⟨S16x256, v⟩, ⟨S16x256, v⟩, ⟨S16x256, v⟩, ⟨S16x256, v⟩, ⟨S16x256, v⟩, ⟨S16x256, v⟩, ⟨S16x256, v⟩] concatenates_S16x256_S16x256_S16x256_S16x256_S16x256_S16x256_S16x256_S16x256_S16x256_S16x256_S16x256_S16x256_S16x256_S16x256_S16x256_S16x256_S256x256_d0

/-- The repeated rows at a row of the table. -/
theorem tile_apply (v : IVec S16x256 32) (i l : Fin 256) : tile v (ix2 i l) = v (ix2 (lo i) l) :=
  concatenate_replicate_apply (t := S256x256) (s₁ := S16x256) 0 16 v _ rfl (ix2 i l) (ix2 (lo i) l) rfl (by
    intro b hb
    fin_cases b
    · exact absurd rfl hb
    · rfl)

theorem lab_word (i : Fin 256) :
    Scalar.select
      (IntOp.andi
        (IntOp.cmpi CmpIPredicate.ne
          (IntOp.subi (BitVec.setWidth 32 (IntOp.cmpi CmpIPredicate.sgt (BitVec.ofNat 32 ↑i) 0#32))
            (BitVec.setWidth 32 (IntOp.cmpi CmpIPredicate.slt (BitVec.ofNat 32 ↑i) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 ↑i) 16#32) 0#32))
      (IntOp.subi (IntOp.divsi ArithUnit.vector (BitVec.ofNat 32 ↑i) 16#32) 1#32)
      (IntOp.divsi ArithUnit.vector (BitVec.ofNat 32 ↑i) 16#32) =
    BitVec.ofNat 32 (i.val / 16) := by
  revert i; decide +kernel

theorem rem_word (i : Fin 256) : IntOp.remsi ArithUnit.vector (BitVec.ofNat 32 ↑i) 16#32 = BitVec.ofNat 32 (i.val % 16) := by
  revert i; decide +kernel

/-- A table row's label is its upper digit. -/
theorem lab_apply (i l : Fin 256) : lab (ix2 i l) = BitVec.ofNat 32 (i.val / 16) := by
  pointwise [k0_pay13, k0_pay12]
  exact lab_word i

/-- The band mask is one where the lower digits agree. -/
theorem band_apply (i j : Fin 256) : band (F := Ideal) (ix2 i j) = if i.val % 16 = j.val % 16 then (1 : EReal) else 0 := by
  pointwise [k0_pay16, k0_pay17, k0_pay18, k0_pay19]
  rw [rem_word, rem_word]
  exact pick_eq (by omega) (by omega) _ _

/-- The digit mask is one where the row is the column's upper digit. -/
theorem digit_apply (a : Fin 16) (i : Fin 256) : k0_pay20 (F := Ideal) (ix2 a i) = if a.val = i.val / 16 then (1 : EReal) else 0 := by
  pointwise [k0_pay20]
  rw [lab_word]
  exact pick_eq (by omega) (by omega) _ _

theorem pay3_tile (v : FVec Ideal S64x256 .f32) (x : FVec Ideal S64x16x256 .f32) :
    k0_pay3 (F := Ideal) v lab x = select (cmpi .eq (tile (shrsi (k0_pay1 v x) (broadcast S16x256 4#32))) lab)
      (broadcast S256x256 (Scalar.ofBits .f32 0x3F800000#32)) (broadcast S256x256 (Scalar.ofBits .f32 0x00000000#32)) := rfl
theorem pay4_tile (v : FVec Ideal S64x256 .f32) (x : FVec Ideal S64x16x256 .f32) :
    k0_pay4 (F := Ideal) v lab x = cmpi .eq (tile (andi (k0_pay1 v x) (broadcast S16x256 15#32))) lab := rfl
theorem pay6_tile (T : FVec Ideal S256x256 .f32) (q : FVec Ideal S16x256 .f32) :
    k0_pay6 (F := Ideal) lab T q = mulf (select (cmpi .eq (tile (shrsi (fptosi 32 q) (broadcast S16x256 4#32))) lab)
      (broadcast S256x256 (Scalar.ofBits .f32 0x3F800000#32)) (broadcast S256x256 (Scalar.ofBits .f32 0x00000000#32)))
      (matmul dot_S256x256_S256x256_S256x256_1_0_0_1_n_n none T
        (select (cmpi .eq (tile (andi (fptosi 32 q) (broadcast S16x256 15#32))) lab)
          (broadcast S256x256 (Scalar.ofBits .f32 0x3F800000#32)) (broadcast S256x256 (Scalar.ofBits .f32 0x00000000#32)))
        (constant S256x256 .f32 0x00000000#32)) := rfl

section Chunk

variable {v : FVec Ideal S64x256 .f32} {x : FVec Ideal S64x16x256 .f32} {n : Fin 16 → Fin 256 → Fin 256}

/-- The upper digit's one-hot rows. -/
theorem pay3_apply (hn : ∀ r l, k0_pay1 v x (ix2 r l) = BitVec.ofNat 32 (n r l).val) (i l : Fin 256) :
    k0_pay3 (F := Ideal) v lab x (ix2 i l) = if (n (lo i) l).val / 16 = i.val / 16 then (1 : EReal) else 0 := by
  rw [pay3_tile]
  pointwise [tile_apply]
  rw [hn, hi_small, lab_apply]
  exact pick_eq (by omega) (by omega) _ _

/-- The lower digit's one-hot rows. -/
theorem pay4_apply (hn : ∀ r l, k0_pay1 v x (ix2 r l) = BitVec.ofNat 32 (n r l).val) (j l : Fin 256) (a b : EReal) :
    Scalar.select (k0_pay4 (F := Ideal) v lab x (ix2 j l)) a b = if (n (lo j) l).val % 16 = j.val / 16 then a else b := by
  rw [pay4_tile]
  show Scalar.select (IntOp.cmpi .eq (tile _ (ix2 j l)) (lab (ix2 j l))) a b = _
  rw [tile_apply, lab_apply]
  show Scalar.select (IntOp.cmpi .eq (IntOp.andi (k0_pay1 v x (ix2 (lo j) l)) 15#32) _) a b = _
  rw [hn, lo_small]
  exact pick_eq (by omega) (by omega) _ _

/-- The joint counts grown by one chunk. -/
theorem pay15_apply (hn : ∀ r l, k0_pay1 v x (ix2 r l) = BitVec.ofNat 32 (n r l).val) (M : FVec Ideal S256x256 .f32) (i j : Fin 256) :
    k0_pay15 (F := Ideal) M (k0_pay3 v lab x) (k0_pay4 v lab x) (Scalar.ofBits .f32 0x00000000#32) k0_pay5 (ix2 i j)
      = M (ix2 i j) + ∑ l, if (n (lo j) l).val % 16 = j.val / 16 then (if (n (lo i) l).val / 16 = i.val / 16 then (1 : EReal) else 0) else 0 := by
  pointwise [k0_pay15, k0_pay5]
  refine congrArg _ (Finset.sum_congr rfl fun l _ => ?_)
  rw [pay4_apply hn, pay3_apply hn]

/-- The table looked up by one chunk's bin numbers, before the digits are summed. -/
theorem pay6_apply {q : FVec Ideal S16x256 .f32} (hq : ∀ r l, q (ix2 r l) = (((n r l).val : ℝ) : EReal)) (T : FVec Ideal S256x256 .f32) (i l : Fin 256) :
    k0_pay6 (F := Ideal) lab T q (ix2 i l)
      = if (n (lo i) l).val / 16 = i.val / 16 then ∑ j, if (n (lo j) l).val % 16 = j.val / 16 then T (ix2 i j) else 0 else 0 := by
  rw [pay6_tile]
  pointwise [tile_apply]
  have hw : ∀ r l, FloatOps.fptosi (F := Ideal) 32 (q (ix2 r l)) = BitVec.ofNat 32 (n r l).val := fun r l =>
    (congrArg (Ideal.fptosi 32) (hq r l)).trans (fptosi_small _ (n r l).isLt)
  rw [hw, hi_small, lab_apply]
  refine (pick_eq (by omega) (by omega) _ _).trans (if_congr Iff.rfl (Finset.sum_congr rfl fun j _ => ?_) rfl)
  rw [hw, lo_small, lab_apply]
  exact pick_eq (by omega) (by omega) _ _

end Chunk

end Cert.KernelIdeal.Hand

end
-- ==== Proof.IdealBins.lean ====
module

public import proofs.«01_k».proof.Proof.IdealMasks

@[expose] public section

/-!
# The kernel's mean direction and bin numbers

One image's first two loops: the channel means' direction, and each pixel's bin.
-/

set_option maxRecDepth 16384

noncomputable section

namespace Cert.KernelIdeal.Hand

open Cert.KernelIdeal Cert.KernelIdeal.Gen
open Idealize.ShloMosaic Idealize.ShloMosaic.TcCoe Cert.Maths

/-- The image by its three coordinates. -/
abbrev im (x : S64x256x256.Idx → Ideal .f32) : Image := fun c h w => x (ix3 c h w)

variable (x : S64x256x256.Idx → Ideal .f32)

/-- A chunk's element. -/
theorem ldx_apply (k : Fin 16) (c : Fin 64) (r : Fin 16) (w : Fin 256) : ldx x k (ix3 c r w) = im x c (num k r) w := by
  refine congrArg x (funext fun a => Fin.ext ?_)
  fin_cases a
  · show 0 + 1 * c.val = c.val; omega
  · show 16 * k.val + 1 * r.val = 16 * k.val + r.val; omega
  · show 0 + 1 * w.val = w.val; omega

theorem pay10_apply (v : FVec Ideal S64x256 .f32) (y : FVec Ideal S64x16x256 .f32) (c : Fin 64) (w : Fin 256) :
    k0_pay10 v y (ix2 c w) = v (ix2 c w) + ∑ r : Fin 16, y (ix3 c r w) := by
  pointwise [k0_pay10]

theorem pay9_apply (c : Fin 64) (w : Fin 256) : k0_pay9 (F := Ideal) (ix2 c w) = (0 : EReal) := by
  pointwise [k0_pay9]

/-- The channel sums over the rows. -/
theorem accA_apply (c : Fin 64) (w : Fin 256) : accA x 16 (ix2 c w) = ∑ h, im x c h w := by
  rw [sum_num]
  refine acc_sum 16 (fun k => accA x k (ix2 c w)) (fun k => ∑ r, im x c (num k r) w) (pay9_apply c w) fun k => ?_
  show accA x (k.val + 1) (ix2 c w) = _
  rw [accA, dif_pos k.isLt, pay10_apply]
  exact congrArg _ (Finset.sum_congr rfl fun r _ => ldx_apply x k c r w)

/-- The mean direction. -/
theorem mdir_apply (c : Fin 64) (w : Fin 256) : mdir x (ix2 c w) = dir (im x) c := by
  have hm : ∀ c, Ideal.div (∑ w, accA x 16 (ix2 c w)) (Ideal.ofBits FTy.f32 1199570944#32) = mean (im x) c := fun c => by
    unfold mean total
    rw [Finset.sum_comm]
    exact congrArg (fun s => Ideal.div s _) (Finset.sum_congr rfl fun w _ => accA_apply x c w)
  unfold mdir
  pointwise [k0_pay11]
  simp only [hm]
  rfl

/-- The kernel's bin number of a pixel. -/
theorem bins_apply (k r : Fin 16) (w : Fin 256) :
    k0_pay1 (mdir x) (ldx x k) (ix2 r w) = BitVec.ofNat 32 (bin (im x) (num k r) w).val := by
  refine Eq.trans ?_ (bin_kernel _)
  pointwise [k0_pay1]
  simp only [ldx_apply, mdir_apply]
  rfl

/-- The bin number as a value. -/
theorem binsOf_apply (k r : Fin 16) (w : Fin 256) : binsOf x k (ix2 r w) = (((bin (im x) (num k r) w).val : ℝ) : EReal) := by
  unfold binsOf
  pointwise [k0_pay2]
  rw [bins_apply]
  exact sitofp_small _ (bin (im x) (num k r) w).isLt

end Cert.KernelIdeal.Hand

end
-- ==== Proof.IdealHist.lean ====
module

public import proofs.«01_k».proof.Proof.IdealBins

@[expose] public section

/-!
# The kernel's histogram

The joint counts of the two digits, their diagonal bands gathered into a 16 × 16 table: the histogram.
-/

set_option maxRecDepth 16384

noncomputable section

namespace Cert.KernelIdeal.Hand

open Cert.KernelIdeal Cert.KernelIdeal.Gen
open Idealize.ShloMosaic Idealize.ShloMosaic.TcCoe Cert.Maths

variable (x : S64x256x256.Idx → Ideal .f32)

theorem pay14_apply (i j : Fin 256) : k0_pay14 (F := Ideal) (ix2 i j) = (0 : EReal) := by
  pointwise [k0_pay14]

/-- The joint counts: the pixels of the chunks' rows `i % 16` and `j % 16` whose digits are `i / 16` and `j / 16`. -/
theorem accM_apply (i j : Fin 256) : accM (mdir x) lab x 16 (ix2 i j)
    = ∑ k, ∑ l, if (bin (im x) (num k (lo j)) l).val % 16 = j.val / 16 then
        (if (bin (im x) (num k (lo i)) l).val / 16 = i.val / 16 then (1 : EReal) else 0) else 0 := by
  refine acc_sum 16 (fun k => accM (mdir x) lab x k (ix2 i j)) (fun k => ∑ l, if (bin (im x) (num k (lo j)) l).val % 16 = j.val / 16 then
        (if (bin (im x) (num k (lo i)) l).val / 16 = i.val / 16 then (1 : EReal) else 0) else 0) (pay14_apply i j) fun k => ?_
  show accM (mdir x) lab x (k.val + 1) (ix2 i j) = _
  rw [accM, dif_pos k.isLt]
  exact pay15_apply (n := fun r l => bin (im x) (num k r) l) (bins_apply x k) _ i j

/-- The counts of a band gathered by its upper digits. -/
theorem pay21_apply (M : FVec Ideal S256x256 .f32) (a b : Fin 16) :
    k0_pay21 M k0_pay16 k0_pay17 k0_pay18 (ix2 a b) = ∑ r, M (ix2 (num a r) (num b r)) := by
  have h : k0_pay21 M k0_pay16 k0_pay17 k0_pay18 (ix2 a b)
      = ∑ j, (∑ i, k0_pay20 (F := Ideal) (ix2 a i) * (M (ix2 i j) * band (F := Ideal) (ix2 i j))) * k0_pay20 (F := Ideal) (ix2 b j) := by
    pointwise [k0_pay21]
  rw [h]
  simp only [digit_apply, band_apply, mul_ite, mul_one, mul_zero, ite_mul, one_mul, zero_mul]
  rw [sum_hi b]
  refine Finset.sum_congr rfl fun r _ => ?_
  refine ((Finset.sum_congr rfl fun i _ => ?_).trans (sum_hi a fun i => if i.val % 16 = (num b r).val % 16 then M (ix2 i (num b r)) else 0)).trans ?_
  · split_ifs <;> rfl
  simp only [num_mod]
  exact sum_one r (fun i : Fin 16 => i.val = r.val) (fun i => Fin.ext_iff.symm) _

/-- The histogram's entry is its bin's count. -/
theorem hist_apply (a b : Fin 16) : hist x (ix2 a b) = cnt (im x) (num a b) := by
  unfold hist
  rw [pay21_apply]
  simp only [accM_apply, lo_num, num_div]
  unfold cnt
  rw [sum_num, Finset.sum_comm]
  refine Finset.sum_congr rfl fun k _ => Finset.sum_congr rfl fun r _ => Finset.sum_congr rfl fun l _ => ?_
  rw [← ite_and]
  refine if_congr ?_ rfl rfl
  rw [Fin.ext_iff]
  simp only [num]
  omega

end Cert.KernelIdeal.Hand

end
-- ==== Proof.IdealTable.lean ====
module

public import proofs.«01_k».proof.Proof.IdealHist

@[expose] public section

/-!
# The kernel's table and the scaled image

The running counts, their least, the bins' new values, and the look-up of every pixel's bin.
-/

set_option maxRecDepth 16384

noncomputable section

namespace Cert.KernelIdeal.Hand

open Cert.KernelIdeal Cert.KernelIdeal.Gen
open Idealize.ShloMosaic Idealize.ShloMosaic.TcCoe Cert.Maths

variable (x : S64x256x256.Idx → Ideal .f32)

/-- The table's entry is its bin's new value, on the diagonal bands. -/
theorem tab_apply (i j : Fin 256) : tab x (ix2 i j) = if i.val % 16 = j.val % 16 then lut (im x) (num (hi i) (hi j)) else 0 := by
  unfold tab
  generalize hH : hist x = H
  have hc : ∀ a b, H (ix2 a b) = cnt (im x) (num a b) := fun a b => hH ▸ hist_apply x a b
  pointwise [k0_pay24, k0_pay22, k0_pay23]
  have hle : ∀ (a b : Fin 16) (u v : EReal),
      Scalar.select (IntOp.cmpi CmpIPredicate.sle (BitVec.ofNat 32 a.val) (BitVec.ofNat 32 b.val)) u v = if a.val ≤ b.val then u else v := fun a b u v => by
    rw [WordCmp.cmpi_sle_ofNat (by omega) (by omega), WordCmp.select_decide]
  have hlt : ∀ (a b : Fin 16) (u v : EReal),
      Scalar.select (IntOp.cmpi CmpIPredicate.slt (BitVec.ofNat 32 a.val) (BitVec.ofNat 32 b.val)) u v = if a.val < b.val then u else v := fun a b u v => by
    rw [WordCmp.cmpi_slt_ofNat (by omega) (by omega), WordCmp.select_decide]
  have hcum := cum_num (cnt (im x))
  have hlow := min_num fun n => if 0 < cnt (im x) n then ∑ m, if m ≤ n then cnt (im x) m else 0 else Ideal.ofBits FTy.f32 1199570944#32 + 1
  simp only [hle, hlt, hc, hcum, inf_eq, hlow]
  change (∑ b, (∑ a, k0_pay20 (F := Ideal) (ix2 a i) * lut (im x) (num a b)) * k0_pay20 (F := Ideal) (ix2 b j)) * band (F := Ideal) (ix2 i j) = _
  simp only [digit_apply, band_apply, mul_ite, mul_one, mul_zero, ite_mul, one_mul, zero_mul]
  refine if_congr Iff.rfl ?_ rfl
  have hb := sum_one (hi j) (fun b : Fin 16 => b.val = j.val / 16) (fun b => ⟨fun h => Fin.ext h, fun h => h ▸ rfl⟩) fun b => ∑ a, if a.val = i.val / 16 then lut (im x) (num a b) else 0
  have ha := sum_one (hi i) (fun a : Fin 16 => a.val = i.val / 16) (fun a => ⟨fun h => Fin.ext h, fun h => h ▸ rfl⟩) fun a => lut (im x) (num a (hi j))
  exact hb.trans ha

/-- The sum of the looked-up digits. -/
theorem look_apply (k : Fin 16) (r : Fin 16) (w : Fin 256) :
    k0_pay7 lab (tab x) (binsOf x k) (ix2 r w) + k0_pay8 lab (tab x) (binsOf x k) (ix2 r w)
      = ∑ a, k0_pay6 lab (tab x) (binsOf x k) (ix2 (num a r) w) := by
  generalize tab x = T
  generalize binsOf x k = q
  pointwise [k0_pay7, k0_pay8]
  generalize k0_pay6 lab T q = G
  simp only [Fin.sum_univ_castSucc, Fin.sum_univ_zero, zero_add]
  iterate 15 refine congrArg₂ (· + ·) ?_ rfl
  exact congrArg (fun i => G (ix2 i w)) (Fin.ext (show r.val = 16 * 0 + r.val by omega))

/-- A pixel's new value. -/
theorem look_eq (k : Fin 16) (r : Fin 16) (w : Fin 256) :
    ∑ a, k0_pay6 lab (tab x) (binsOf x k) (ix2 (num a r) w) = lut (im x) (bin (im x) (num k r) w) := by
  simp only [pay6_apply (n := fun r l => bin (im x) (num k r) l) (binsOf_apply x k), tab_apply, lo_num, num_div, num_mod, hi_num]
  rw [sum_one (hi (bin (im x) (num k r) w)) (fun a => (bin (im x) (num k r) w).val / 16 = a.val)
    (fun a => ⟨fun h => Fin.ext h.symm, fun h => h ▸ rfl⟩) _, sum_num, Finset.sum_comm]
  simp only [lo_num, num_div, num_mod, hi_num]
  have hr : ∀ s t : Fin 16, (if (bin (im x) (num k s) w).val % 16 = t.val then
        (if r.val = s.val then lut (im x) (num (hi (bin (im x) (num k r) w)) t) else 0) else 0)
      = if s = r then (if t = lo (bin (im x) (num k s) w) then lut (im x) (num (hi (bin (im x) (num k r) w)) t) else 0) else 0 := fun s t => by
    rw [← ite_and, ← ite_and]
    refine if_congr ?_ rfl rfl
    simp only [Fin.ext_iff]
    omega
  simp only [hr]
  rw [Finset.sum_comm]
  simp only [Finset.sum_ite_eq', Finset.mem_univ, if_true]
  rw [num_hi_lo]

/-- One image's result is the image scaled by its pixels' new values. -/
theorem outX_apply (c : Fin 64) (h w : Fin 256) : outX x (ix3 c h w) = val (im x) c h w := by
  have hx := ldx_apply x (hi h) c (lo h) w
  have hn := (look_apply x (hi h) (lo h) w).trans (look_eq x (hi h) (lo h) w)
  rw [num_hi_lo] at hx hn
  have hy : within (ix3 c h w) = ix3 c (lo h) w := by
    funext a; fin_cases a <;> rfl
  show outRows x (hi h) (within (ix3 c h w)) = _
  rw [hy]
  unfold outRows
  generalize hA : k0_pay7 lab (tab x) (binsOf x (hi h)) = A at hn ⊢
  generalize hB : k0_pay8 lab (tab x) (binsOf x (hi h)) = B at hn ⊢
  pointwise [k0_pay25]
  rw [hx, hn, IdealRules.named_const.ideal_named_scalar _ _ _ ((255⁻¹ : ℝ) : EReal) rfl]
  unfold val
  rw [top_eq, Ideal.div_coe (by norm_num), one_div, mul_comm]

end Cert.KernelIdeal.Hand

end
-- ==== Proof.IdealValue.lean ====
module

public import proofs.«01_k».proof.Proof.IdealLaunch
public import proofs.«01_k».proof.Proof.IdealTable

@[expose] public section

/-!
# What the kernel leaves in its result array
-/

set_option maxRecDepth 16384

noncomputable section

namespace Cert.KernelIdeal.Hand

open Cert.KernelIdeal Cert.KernelIdeal.Gen
open Idealize.ShloMosaic Idealize.ShloMosaic.TcCoe Cert.Maths

/-- Every element of the result array is the scaled value of its image at its pixel. -/
theorem resBuf_apply (c : Dev nD) (XA : Buf (Elt Ideal) (inM.view.loc (c : Thread nD τ))) (b : Fin 16) (k : Fin 64) (h w : Fin 256) :
    Eq (α := EReal) (resBuf c XA (ix4 b k h w)) (val (fun k h w => XA (ix4 b k h w)) k h w) := by
  have ei : inImg (ix4 b k h w) = ix3 k h w := by funext a; fin_cases a <;> rfl
  have ea : ∀ (k : Fin 64) (h w : Fin 256), at4 b (ix3 k h w) = ix4 b k h w := fun k h w => by funext a; fin_cases a <;> rfl
  have em : im (img c XA b) = fun k h w => XA (ix4 b k h w) := by
    funext k h w
    exact (img_apply c XA b (ix3 k h w)).trans (congrArg XA (ea k h w))
  show Eq (α := EReal) (outX (img c XA b) (inImg (ix4 b k h w))) _
  rw [ei, outX_apply, em]

end Cert.KernelIdeal.Hand

end
-- ==== Proof.RefBins.lean ====
module

public import proofs.«01_k».proof.Proof.Gen.ReferenceIdeal.Run
public import proofs.«01_k».proof.Proof.Words
public import proofs.«01_k».proof.Proof.Sums

@[expose] public section

/-!
# The reference's bin numbers

The mean direction, every pixel's comparison with it, and the comparison's bin.
-/

set_option maxRecDepth 16384

noncomputable section

namespace Cert.ReferenceIdeal.Hand

open Cert.ReferenceIdeal Cert.ReferenceIdeal.Gen Cert.ReferenceIdeal.Value
open Idealize.ShloMosaic Idealize.ShloMosaic.TcCoe Cert.Maths

variable (V : Valuation τ sig (Elt Ideal))

/-- One image of the batch. -/
abbrev img (b : Fin 16) : Image := fun c h w => V (Proc.tc.devRef main_arg0) (ix4 b c h w)

/-- The channel means. -/
theorem v3_apply (b : Fin 16) (c : Fin 64) : res_main_v3 V (ix4 b c 0 0) = mean (img V b) c := by
  pointwise [res_main_v3]
  rfl

/-- The comparisons, scaled to the bins. -/
theorem v24_apply (b : Fin 16) (h w : Fin 256) : res_main_v24 V (ix3 b h w) = cosv (img V b) h w * top := by
  pointwise [res_main_v24]
  simp only [v3_apply]
  exact congrArg (· * top) (sum_div (len_pos fun c => img V b c h w) (fun c => img V b c h w) (dir (img V b)))

/-- The bins' number as the remainder's divisor. -/
theorem divisor : Scalar.select (IntOp.cmpi CmpIPredicate.eq (id (constantI S_ 32 256#32) ix0) 0#32) (1#32) (id (constantI S_ 32 256#32) ix0) = 256#32 := by
  decide

/-- The comparison's signed remainder. -/
theorem rem_apply (b : Fin 16) (h w : Fin 256) :
    (res_main_call1_v4 V : S16x256x256.Idx → BitVec 32) (ix3 b h w) = IntOp.remsi .host (word (img V b) h w) 256#32 := by
  pointwise [res_main_call1_v4, res_main_call1_v2, res_main_call1_v0]
  rw [divisor, v24_apply]
  exact congrArg (fun z => IntOp.remsi .host z 256#32) (fptosi_trunc _)

/-- The row and the column of a pixel counted along the image. -/
abbrev rowOf (p : Fin 65536) : Fin 256 := ⟨p.val / 256, by have := p.isLt; omega⟩
abbrev colOf (p : Fin 65536) : Fin 256 := ⟨p.val % 256, Nat.mod_lt _ (by decide)⟩

/-- The bin numbers. -/
theorem v28_apply (b : Fin 16) (p : Fin 65536) :
    (res_main_v28 V : S16x65536.Idx → BitVec 32) (ix2 b p) = BitVec.ofNat 32 (bin (img V b) (rowOf p) (colOf p)).val := by
  refine Eq.trans ?_ (bin_reference (word (img V b) (rowOf p) (colOf p)))
  pointwise [res_main_v28, res_main_call1_v2, res_main_call1_v0]
  rw [divisor, rem_apply]

/-- The bin numbers as the look-up's row numbers. -/
theorem v5_apply (b : Fin 16) (p : Fin 65536) :
    (res_main_call6_v5 V : S16x65536x1.Idx → BitVec 32) (ix3 b p 0) = BitVec.ofNat 32 (bin (img V b) (rowOf p) (colOf p)).val := by
  pointwise [res_main_call6_v5]
  rw [v28_apply]
  have : ∀ n : Fin 256, Scalar.select (IntOp.cmpi CmpIPredicate.slt (BitVec.ofNat 32 n.val) 0#32) (IntOp.addi (BitVec.ofNat 32 n.val) 256#32) (BitVec.ofNat 32 n.val)
      = BitVec.ofNat 32 n.val := by decide +kernel
  exact this _

end Cert.ReferenceIdeal.Hand

end
-- ==== Proof.RefHist.lean ====
module

public import proofs.«01_k».proof.Proof.RefBins

@[expose] public section

/-!
# The reference's histogram

Every pixel of the batch adds one to its image's bin; the running count sums the bins up to each.
-/

set_option maxRecDepth 16384

noncomputable section

namespace Cert.ReferenceIdeal.Hand

open Cert.ReferenceIdeal Cert.ReferenceIdeal.Gen Cert.ReferenceIdeal.Value
open Idealize.ShloMosaic Idealize.ShloMosaic.TcCoe Cert.Maths

variable (V : Valuation τ sig (Elt Ideal))

/-! ## Where an addition lands -/

/-- An addition goes where its number says. -/
theorem lands (idx : IVec S1048576x1 32) (m : Fin 1048576) (k : Fin 4096) :
    ScatterDims.resultIdx? scatter_S4096_S1048576x1_S1048576_n_0_0_1 (ix1 m) idx = some (ix1 k)
      ↔ (idx (ix2 m 0)).toInt = k.val := by
  have hs : ScatterDims.start scatter_S4096_S1048576x1_S1048576_n_0_0_1 (ix1 m) idx 0 = (idx (ix2 m 0)).toInt := by
    show (idx _).toInt = _
    refine congrArg (fun z => (idx z).toInt) (funext fun a => Fin.ext ?_)
    match a with
    | ⟨0, _⟩ => rfl
    | ⟨1, _⟩ => rfl
  have hw : ScatterDims.window scatter_S4096_S1048576x1_S1048576_n_0_0_1 (ix1 m) 0 = 0 := rfl
  have hk := k.isLt
  have all : (∀ a, 0 ≤ ScatterDims.start scatter_S4096_S1048576x1_S1048576_n_0_0_1 (ix1 m) idx a + ScatterDims.window scatter_S4096_S1048576x1_S1048576_n_0_0_1 (ix1 m) a
      ∧ ScatterDims.start scatter_S4096_S1048576x1_S1048576_n_0_0_1 (ix1 m) idx a + ScatterDims.window scatter_S4096_S1048576x1_S1048576_n_0_0_1 (ix1 m) a < S4096.size a)
      ↔ 0 ≤ (idx (ix2 m 0)).toInt ∧ (idx (ix2 m 0)).toInt < 4096 := by
    rw [← hs]
    constructor
    · intro h; have h0 := h 0; rw [hw, Nat.cast_zero, add_zero] at h0; exact h0
    · intro h a; obtain rfl : a = 0 := Subsingleton.elim _ _
      rw [hw, Nat.cast_zero, add_zero]; exact h
  unfold ScatterDims.resultIdx?
  by_cases h : 0 ≤ (idx (ix2 m 0)).toInt ∧ (idx (ix2 m 0)).toInt < 4096
  · rw [dif_pos (all.mpr h), Option.some_inj]
    have e0 : (ScatterDims.start scatter_S4096_S1048576x1_S1048576_n_0_0_1 (ix1 m) idx 0 + ScatterDims.window scatter_S4096_S1048576x1_S1048576_n_0_0_1 (ix1 m) 0).toNat
        = (idx (ix2 m 0)).toInt.toNat := by rw [hs, hw, Nat.cast_zero, add_zero]
    constructor
    · intro e
      have := congrArg Fin.val (congrFun e 0)
      have e1 : (idx (ix2 m 0)).toInt.toNat = k.val := e0.symm.trans this
      omega
    · intro e
      refine funext fun a => Fin.ext ?_
      obtain rfl : a = 0 := Subsingleton.elim _ _
      exact e0.trans (show _ = k.val by omega)
  · rw [dif_neg fun g => h (all.mp g)]
    constructor
    · intro e; cases e
    · intro e; omega

/-! ## The batch's numbers -/

/-- The numbers the additions go to. -/
def place : IVec S1048576x1 32 :=
  broadcastInDim S1048576x1 ![0] bcast_S1048576_S1048576x1_0 (shapeCast _ (addi (res_main_v28 V) (broadcastInDim S16x65536 ![0, 1] bcast_S16x1_S16x65536_0_1 (muli (broadcastInDim S16x1 ![] bcast_S_S16x1 (constantI S_ 32 256#32)) (broadcastInDim S16x1 ![0] bcast_S16_S16x1_0 (iotaInDim S16 32 0))))) shapeCasts_S16x65536_S1048576)

/-- The pixel `p` of image `b` in the batch. -/
abbrev pix (b : Fin 16) (p : Fin 65536) : Fin 1048576 := ⟨b.val * 65536 + p.val, by have := b.isLt; have := p.isLt; omega⟩
/-- The bin `n` of image `b` in the batch. -/
abbrev slot (b : Fin 16) (n : Fin 256) : Fin 4096 := ⟨b.val * 256 + n.val, by have := b.isLt; have := n.isLt; omega⟩

theorem place_apply (m : Fin 1048576) :
    place V (ix2 m 0) = IntOp.addi ((res_main_v28 V : S16x65536.Idx → BitVec 32) (ix2 ⟨m.val / 65536, by have := m.isLt; omega⟩ ⟨m.val % 65536, Nat.mod_lt _ (by decide)⟩))
      (IntOp.muli 256#32 (BitVec.ofNat 32 (m.val / 65536))) := by
  pointwise [place]

/-- A pixel's number is its image's first bin plus its own. -/
theorem place_toInt (b : Fin 16) (p : Fin 65536) :
    (place V (ix2 (pix b p) 0)).toInt = (slot b (bin (img V b) (rowOf p) (colOf p))).val := by
  have hp := p.isLt
  have eb : (⟨(pix b p).val / 65536, by have := (pix b p).isLt; omega⟩ : Fin 16) = b := Fin.ext (show (b.val * 65536 + p.val) / 65536 = b.val by omega)
  have ep : (⟨(pix b p).val % 65536, Nat.mod_lt _ (by decide)⟩ : Fin 65536) = p := Fin.ext (show (b.val * 65536 + p.val) % 65536 = p.val by omega)
  rw [place_apply, eb, ep, v28_apply]
  have eb' : (pix b p).val / 65536 = b.val := by show (b.val * 65536 + p.val) / 65536 = b.val; omega
  rw [eb']
  generalize bin (img V b) (rowOf p) (colOf p) = n
  have : IntOp.addi (BitVec.ofNat 32 n.val) (IntOp.muli 256#32 (BitVec.ofNat 32 b.val)) = BitVec.ofNat 32 (b.val * 256 + n.val) := by
    show BitVec.ofNat 32 n.val + BitVec.ofNat 32 256 * BitVec.ofNat 32 b.val = _
    rw [← BitVec.ofNat_mul, ← BitVec.ofNat_add]; congr 1; omega
  rw [this]
  have := n.isLt; have := b.isLt
  exact StableHlo.Predicate.toInt_ofNat_small _ (by omega)

/-! ## The histogram -/

theorem one_eq : Ideal.ofBits .f32 0x3F800000#32 = 1 := by
  simp [Ideal.ofBits, Ideal.ieee, -EReal.coe_mul]; norm_num

theorem zero_eq : Ideal.ofBits .f32 0x00000000#32 = 0 := by
  simp [Ideal.ofBits, Ideal.ieee]

/-- Additions to an array add to every entry what goes there. -/
theorem scatterAdd_apply {s si u : Shape} (d : ScatterDims s si u) (x : FVec Ideal s .f32) (idx : IVec si 32) (y : FVec Ideal u .f32) (i : s.Idx) :
    Eq (α := EReal) (Host.scatterAdd d x idx y i) (x i + ∑ j ∈ Finset.univ.filter (fun j => d.resultIdx? j idx = some i), y j) := rfl

/-- The histogram is the additions' array, cut into the images. -/
theorem v40_eq : res_main_v40 V = shapeCast (α := Ideal .f32) S16x256 (Host.scatterAdd (F := Ideal) (φ := .f32) scatter_S4096_S1048576x1_S1048576_n_0_0_1 (broadcastInDim S4096 ![] bcast_S_S4096 (constant S_ .f32 0x00000000#32)) (place V)
    (broadcastInDim S1048576 ![] bcast_S_S1048576 (constant S_ .f32 0x3F800000#32))) shapeCasts_S4096_S16x256 := rfl

/-- A constant array's entries. -/
theorem const_apply {t : Shape} (h : S_.BroadcastsInDim t ![]) (v : BitVec 32) (j : t.Idx) :
    Eq (α := EReal) (broadcastInDim t ![] h (constant (F := Ideal) S_ .f32 v) j) (Ideal.ofBits .f32 v) := rfl

/-- A bin of the batch counts the additions that go to it. -/
theorem v40_sum (b : Fin 16) (n : Fin 256) :
    Eq (α := EReal) (res_main_v40 V (ix2 b n)) (∑ m : Fin 1048576, if (place V (ix2 m 0)).toInt = (slot b n).val then 1 else 0) := by
  pointwise [v40_eq]
  refine (scatterAdd_apply _ _ _ _ _).trans ?_
  rw [const_apply, zero_eq, zero_add, Finset.sum_filter, sum_idx1]
  refine Finset.sum_congr rfl fun m _ => ?_
  rw [const_apply, one_eq]
  exact if_congr (lands (place V) m (slot b n)) rfl rfl

/-- The histogram of one image. -/
theorem v40_apply (b : Fin 16) (n : Fin 256) : Eq (α := EReal) (res_main_v40 V (ix2 b n)) (cnt (img V b) n) := by
  rw [v40_sum, Fin.sum_univ_tiles 16 65536 rfl]
  have key : ∀ (j : Fin 16) (p : Fin 65536), (place V (ix2 (pix j p) 0)).toInt = (slot b n).val ↔ j = b ∧ bin (img V j) (rowOf p) (colOf p) = n := fun j p => by
    rw [place_toInt]
    have := n.isLt; have := (bin (img V j) (rowOf p) (colOf p)).isLt
    constructor
    · intro h
      have h : j.val * 256 + (bin (img V j) (rowOf p) (colOf p)).val = b.val * 256 + n.val := Int.ofNat.inj h
      exact ⟨Fin.ext (by omega), Fin.ext (by omega)⟩
    · rintro ⟨rfl, h⟩; rw [h]
  rw [Finset.sum_eq_single b]
  · rw [Fin.sum_univ_tiles 256 256 rfl]
    refine Finset.sum_congr rfl fun h _ => Finset.sum_congr rfl fun w _ => if_congr ((key b _).trans ?_) rfl rfl
    have hw := w.isLt
    have er : rowOf ⟨h.val * 256 + w.val, by have := h.isLt; omega⟩ = h := Fin.ext (show (h.val * 256 + w.val) / 256 = h.val by omega)
    have ec : colOf ⟨h.val * 256 + w.val, by have := h.isLt; omega⟩ = w := Fin.ext (show (h.val * 256 + w.val) % 256 = w.val by omega)
    rw [er, ec]
    exact and_iff_right rfl
  · intro j _ hj
    exact Finset.sum_eq_zero fun p _ => if_neg fun h => hj ((key j p).mp h).1
  · intro h; exact absurd (Finset.mem_univ b) h

end Cert.ReferenceIdeal.Hand

end
-- ==== Proof.RefCum.lean ====
module

public import proofs.«01_k».proof.Proof.RefBins

@[expose] public section

/-!
# The running sum and the least value

What a padded window's sum and a row's least value are, for any array.
-/

set_option maxRecDepth 16384

noncomputable section

namespace Cert.ReferenceIdeal.Hand

open Cert.ReferenceIdeal Cert.ReferenceIdeal.Gen Cert.ReferenceIdeal.Value
open Idealize.ShloMosaic Idealize.ShloMosaic.TcCoe Cert.Maths

/-- Adding a list's terms one after the other. -/
theorem foldl_add {ι : Type} (g : ι → EReal) : ∀ (l : List ι) (v : EReal), l.foldl (fun r n => r + g n) v = v + (l.map g).sum
  | [], v => by simp
  | a :: l, v => by rw [List.foldl_cons, foldl_add g l, List.map_cons, List.sum_cons, add_assoc]

/-- The terms of a window that ends at `n`, counted from the window's start, are the terms up to `n`. -/
theorem window_terms (c : Fin 256 → EReal) (n : Fin 256) :
    (∑ k : Fin 256, if h : 255 ≤ n.val + k.val then c ⟨n.val + k.val - 255, by have := n.isLt; have := k.isLt; omega⟩ else 0)
      = ∑ m, if m ≤ n then c m else 0 := by
  rw [← Equiv.sum_comp (Equiv.addLeft (n + 1)) fun m => if m ≤ n then c m else 0]
  refine Finset.sum_congr rfl fun k _ => ?_
  have hn := n.isLt; have hk := k.isLt
  have hv : ((Equiv.addLeft (n + 1)) k).val = (n.val + 1 + k.val) % 256 := by
    show ((n + 1 + k : Fin 256)).val = _
    rw [Fin.val_add, Fin.val_add]
    show ((n.val + 1) % 256 + k.val) % 256 = _
    omega
  by_cases h : 255 ≤ n.val + k.val
  · have e : (Equiv.addLeft (n + 1)) k = ⟨n.val + k.val - 255, by omega⟩ := Fin.ext (by rw [hv]; show _ = n.val + k.val - 255; omega)
    rw [dif_pos h, e]
    exact (if_pos (show n.val + k.val - 255 ≤ n.val by omega)).symm
  · rw [dif_neg h, if_neg fun g => by have g : ((Equiv.addLeft (n + 1)) k).val ≤ n.val := g; rw [hv] at g; omega]

/-- A row's running sum. -/
theorem window_apply (x : S16x256.Idx → EReal) (v : S_.Idx → EReal) (hv : ∀ i, v i = 0) (b : Fin 16) (n : Fin 256) :
    Host.reduceWindow (s := S16x256) (t := S16x256) (· + ·) ![1, 256] ![1, 1] ![0, 255] ![0, 0] x v reduceWindows_S16x256_S16x256_w1s1p0_0_w256s1p255_0 h_S_ (ix2 b n)
      = ∑ m, if m ≤ n then x (ix2 b m) else 0 := by
  unfold Host.reduceWindow
  dsimp only
  rw [foldl_add, hv, zero_add, ← Fin.sum_univ_def]
  refine (Equiv.sum_comp (Shape.rowMajor ⟨2, ![1, 256]⟩).symm fun j : (⟨2, ![1, 256]⟩ : Shape).Idx =>
    @dite EReal (∀ a : Fin 2, (![0, 255] : Fin 2 → ℕ) a ≤ (ix2 b n a).val * (![1, 1] : Fin 2 → ℕ) a + (j a).val ∧ (ix2 b n a).val * (![1, 1] : Fin 2 → ℕ) a + (j a).val - (![0, 255] : Fin 2 → ℕ) a < S16x256.size a)
      (Nat.decidableForallFin _)
      (fun hin => x (fun a => ⟨(ix2 b n a).val * (![1, 1] : Fin 2 → ℕ) a + (j a).val - (![0, 255] : Fin 2 → ℕ) a, (hin a).2⟩)) fun _ => 0).trans ?_
  rw [sum_idx2, Fin.sum_univ_one, ← window_terms]
  refine Finset.sum_congr rfl fun k _ => ?_
  have hn := n.isLt; have hk := k.isLt; have hb := b.isLt
  by_cases h : 255 ≤ n.val + k.val
  · rw [dif_pos h]
    split
    · refine congrArg x (funext fun a => Fin.ext ?_)
      match a with
      | ⟨0, _⟩ => show b.val * 1 + 0 - 0 = b.val; omega
      | ⟨1, _⟩ => show n.val * 1 + k.val - 255 = n.val + k.val - 255; omega
    · next g =>
      refine (g fun a => ?_).elim
      match a with
      | ⟨0, _⟩ => show 0 ≤ b.val * 1 + 0 ∧ b.val * 1 + 0 - 0 < 16; omega
      | ⟨1, _⟩ => show 255 ≤ n.val * 1 + k.val ∧ n.val * 1 + k.val - 255 < 256; omega
  · rw [dif_neg h, dif_neg fun g => h ?_]
    have g : 255 ≤ n.val * 1 + k.val ∧ _ := g 1
    omega

/-- A row's least value. -/
theorem least_apply (g : S16x256.Idx → EReal) (b : Fin 16) :
    Finset.fold min (⊤ : EReal) g (Finset.univ.filter fun i => reducesTo_S16x256_S16_d1.drop i = ix1 b)
      = Finset.univ.fold min ⊤ fun n : Fin 256 => g (ix2 b n) := by
  have hd : ∀ (c : Fin 16) (n : Fin 256), reducesTo_S16x256_S16_d1.drop (ix2 c n) = ix1 c := fun c n => by
    refine funext fun a => Fin.ext ?_
    obtain rfl : a = 0 := Subsingleton.elim _ _
    rfl
  show (Finset.univ.filter fun i => reducesTo_S16x256_S16_d1.drop i = ix1 b).inf g = Finset.univ.inf fun n : Fin 256 => g (ix2 b n)
  apply le_antisymm
  · exact Finset.le_inf fun n _ => Finset.inf_le (Finset.mem_filter.mpr ⟨Finset.mem_univ _, hd b n⟩)
  · refine Finset.le_inf fun i hi => ?_
    have hi := (Finset.mem_filter.mp hi).2
    have e : i 0 = b := congrFun ((hd (i 0) (i 1)).symm.trans ((congrArg _ (eq_ix2 i).symm).trans hi)) 0
    have ei : i = ix2 b (i 1) := (eq_ix2 i).trans (congrArg (fun z => ix2 z (i 1)) e)
    exact (Finset.inf_le (f := fun n : Fin 256 => g (ix2 b n)) (Finset.mem_univ (i 1))).trans (le_of_eq (congrArg g ei).symm)

end Cert.ReferenceIdeal.Hand

end
-- ==== Proof.RefTable.lean ====
module

public import proofs.«01_k».proof.Proof.RefHist
public import proofs.«01_k».proof.Proof.RefCum

@[expose] public section

/-!
# The reference's new values

The running counts, the least of them in use, the new value of every bin, its look-up at every pixel,
and the reference's result.
-/

set_option maxRecDepth 16384

noncomputable section

namespace Cert.ReferenceIdeal.Hand

open Cert.ReferenceIdeal Cert.ReferenceIdeal.Gen Cert.ReferenceIdeal.Value
open Idealize.ShloMosaic Idealize.ShloMosaic.TcCoe Cert.Maths

variable (V : Valuation τ sig (Elt Ideal))

/-- The running count of one image. -/
theorem v41_apply (b : Fin 16) (n : Fin 256) : Eq (α := EReal) (res_main_v41 V (ix2 b n)) (cum (img V b) n) := by
  unfold res_main_v41
  refine (window_apply (res_main_v40 V) _ (fun i => zero_eq) b n).trans ?_
  exact Finset.sum_congr rfl fun m _ => if_congr Iff.rfl (v40_apply V b m) rfl

/-- The running count at the first bin in use. -/
theorem v46_apply (b : Fin 16) : Eq (α := EReal) (res_main_v46 V (ix1 b)) (low (img V b)) := by
  pointwise [res_main_v46]
  rw [inf_eq]
  refine (least_apply _ b).trans ?_
  refine congrArg (fun g => Finset.univ.fold min ⊤ g) (funext fun n => ?_)
  rw [v40_apply, v41_apply]
  rfl

/-- A look-up reads its own image's row at its number. -/
theorem gather_apply (x : S16x256.Idx → EReal) (idx : IVec S16x65536x1 32) (b : Fin 16) (p : Fin 65536) (n : Fin 256)
    (h : idx (ix3 b p 0) = BitVec.ofNat 32 n.val) :
    Host.gather gather_S16x256_S16x65536x1_S16x65536_n_1_0_0_1_2_11 x idx (ix2 b p) = x (ix2 b n) := by
  unfold Host.gather
  refine congrArg x (funext fun a => Fin.ext ?_)
  have hn := n.isLt
  match a with
  | ⟨0, _⟩ => show 0 + b.val + 0 = b.val; omega
  | ⟨1, _⟩ =>
    show min (idx _).toInt.toNat (256 - 1) = n.val
    have e : ∀ z, z = ix3 b p 0 → min (idx z).toInt.toNat (256 - 1) = n.val := fun z hz => by
      rw [hz, h, StableHlo.Predicate.toInt_ofNat_small _ (by omega)]
      show min (n.val) (256 - 1) = n.val
      omega
    refine e _ (funext fun a => Fin.ext ?_)
    match a with
    | ⟨0, _⟩ => rfl
    | ⟨1, _⟩ => rfl
    | ⟨2, _⟩ => rfl

/-- The bins' new values, as a term of the argument. -/
def tab : FVec Ideal S16x256 .f32 :=
  minimumf (broadcastInDim S16x256 ![] bcast_S_S16x256 (id (constant S_ .f32 0x437F0000#32))) (maximumf (broadcastInDim S16x256 ![] bcast_S_S16x256 (id (constant S_ .f32 0x00000000#32))) (Host.roundeven (mulf (subf (res_main_v41 V) (broadcastInDim S16x256 ![0, 1] bcast_S16x1_S16x256_0_1 (broadcastInDim S16x1 ![0] bcast_S16_S16x1_0 (res_main_v46 V)))) (broadcastInDim S16x256 ![0, 1] bcast_S16x1_S16x256_0_1 (Host.divf (broadcastInDim S16x1 ![] bcast_S_S16x1 (constant S_ .f32 0x437F0000#32)) (broadcastInDim S16x1 ![0] bcast_S16_S16x1_0 (maximumf (subf (broadcastInDim S16 ![] bcast_S_S16 (constant S_ .f32 0x47800000#32)) (res_main_v46 V)) (broadcastInDim S16 ![] bcast_S_S16 (constant S_ .f32 0x3F800000#32)))))))))

/-- The new values of one image's bins. -/
theorem tab_apply (b : Fin 16) (n : Fin 256) : tab V (ix2 b n) = lut (img V b) n := by
  pointwise [tab]
  rw [v41_apply, v46_apply]
  show min top (max (Ideal.ofBits .f32 0x00000000#32) _) = _
  rw [zero_eq]
  rfl

/-- A conjunction of ones. -/
theorem fold_and {ι : Type} (s : Finset ι) (f : ι → BitVec 1) (h : ∀ i, f i = 1#1) : s.fold IntOp.andi 1#1 f = 1#1 := by
  classical
  induction s using Finset.induction_on with
  | empty => rfl
  | insert a s ha ih => rw [Finset.fold_insert ha, h, ih]; rfl

/-- Every number is within a row. -/
theorem within (i : S16x65536x1.Idx) :
    IntOp.andi (IntOp.cmpi .sge ((res_main_call6_v5 V : S16x65536x1.Idx → BitVec 32) i) 0#32) (IntOp.cmpi .sle ((res_main_call6_v5 V : S16x65536x1.Idx → BitVec 32) i) 255#32) = 1#1 := by
  have key : ∀ n : Fin 256, IntOp.andi (IntOp.cmpi .sge (BitVec.ofNat 32 n.val) 0#32) (IntOp.cmpi .sle (BitVec.ofNat 32 n.val) 255#32) = 1#1 := by decide +kernel
  have e : i = ix3 (i 0) (i 1) 0 := (eq_ix3 i).trans (congrArg (ix3 (i 0) (i 1)) (Subsingleton.elim (α := Fin 1) _ _))
  have v : (res_main_call6_v5 V : S16x65536x1.Idx → BitVec 32) i = _ := (congrArg _ e).trans (v5_apply V (i 0) (i 1))
  rw [v]
  exact key _

/-- The reference's result, as a term of its argument. -/
def result : FVec Ideal S16x64x256x256 .f32 :=
  mulf (broadcastInDim S16x64x256x256 ![0, 1, 2, 3] bcast_S16x1x256x256_S16x64x256x256_0_1_2_3 (broadcastInDim S16x1x256x256 ![0, 2, 3] bcast_S16x256x256_S16x1x256x256_0_2_3 (Host.divf (shapeCast _ (select (Host.reduce IntOp.andi (andi (cmpi .sge (res_main_call6_v5 V) (broadcastInDim S16x65536x1 ![] bcast_S_S16x65536x1 (constantI S_ 32 0#32))) (cmpi .sle (res_main_call6_v5 V) (broadcastInDim S16x65536x1 ![0, 1, 2] bcast_S1x1x1_S16x65536x1_0_1_2 (broadcastInDim S1x1x1 ![2] bcast_S1_S1x1x1_2 (constantI S1 32 255#32))))) (constantI S_ 1 1#1) reducesTo_S16x65536x1_S16x65536_d2 h_S_) (Host.gather gather_S16x256_S16x65536x1_S16x65536_n_1_0_0_1_2_11 (tab V) (res_main_call6_v5 V)) (broadcastInDim S16x65536 ![] bcast_S_S16x65536 (constant S_ .f32 0x7FC00000#32))) shapeCasts_S16x65536_S16x256x256) (broadcastInDim S16x256x256 ![] bcast_S_S16x256x256 (constant S_ .f32 0x437F0000#32))))) (V (Proc.devRef .tc main_arg0))

/-- The reference's result. -/
theorem result_apply (b : Fin 16) (c : Fin 64) (h w : Fin 256) : result V (ix4 b c h w) = val (img V b) c h w := by
  have hh := h.isLt; have hw := w.isLt
  have er : rowOf ⟨h.val * 256 + w.val, by omega⟩ = h := Fin.ext (show (h.val * 256 + w.val) / 256 = h.val by omega)
  have ec : colOf ⟨h.val * 256 + w.val, by omega⟩ = w := Fin.ext (show (h.val * 256 + w.val) % 256 = w.val by omega)
  pointwise [result]
  have hs : ∀ (z : BitVec 1) (x y : EReal), z = 1#1 → Scalar.select z x y = x := fun z x y hz => by rw [hz]; rfl
  refine congrArg (fun z : EReal => Ideal.div z top * V (Proc.tc.devRef main_arg0) (ix4 b c h w)) ((hs _ _ _ (fold_and _ _ (within V))).trans ?_)
  refine (gather_apply (tab V) (res_main_call6_v5 V) b ⟨h.val * 256 + w.val, by omega⟩ _ (v5_apply V b _)).trans ?_
  rw [tab_apply, er, ec]

end Cert.ReferenceIdeal.Hand

end
-- ==== Proof.RefValue.lean ====
module

public import proofs.«01_k».proof.Proof.RefTable

@[expose] public section

/-!
# What the reference leaves in its result array
-/

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo

/-- The result's term is the one that the operations compose. -/
theorem result_eq (V : Valuation τ sig (Elt Ideal)) : val2 V (Proc.devRef .tc main_v67) = result V :=
  (val2_main_v67 V).trans (by unfold result tab; rfl)

/-- The reference terminates with `result` of its argument, and the argument as it was. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = result (launchContents m c)
      ∧ r.2.mem ((c.tc : Thread nD τ).loc main_arg0) = m ((c.tc : Thread nD τ).loc main_arg0) :=
  (θ_run defs _ _).mono (fun _ h c => ⟨((h c).1.trans (val2_main_v67 (launchContents m c)).symm).trans (result_eq _), (h c).2⟩) (Value.run (F := Ideal) m ρ)

end Cert.ReferenceIdeal.Hand

end
-- ==== Proof.Equation.lean ====
module

public import proofs.«01_k».proof.Defs
public import proofs.«01_k».proof.Proof.IdealValue
public import proofs.«01_k».proof.Proof.RefValue

@[expose] public section

/-!
# The equation

The kernel and the reference leave the same array.
-/

noncomputable section

open Idealize.ShloMosaic Idealize.ShloMosaic.TcCoe Idealize.SL.Sem Idealize.ShloMosaic.StableHlo

namespace Cert.Proof

/-- From one argument the two programs' results are equal, element by element. -/
theorem same_result (c : Dev Cert.KernelIdeal.nD)
    (XA : Buf (Elt Ideal) ((c.tc : Thread Cert.KernelIdeal.nD Cert.KernelIdeal.τ).loc Cert.KernelIdeal.main_arg0))
    (V : Valuation Cert.ReferenceIdeal.τ Cert.ReferenceIdeal.sig (Elt Ideal))
    (hV : V (Proc.tc.devRef Cert.ReferenceIdeal.main_arg0) = XA) :
    Cert.ReferenceIdeal.Hand.result V = Cert.KernelIdeal.Hand.resBuf c XA := by
  funext y
  obtain ⟨b, k, h, w, rfl⟩ : ∃ (b : Fin 16) (k : Fin 64) (h w : Fin 256), y = ix4 b k h w := ⟨y 0, y 1, y 2, y 3, eq_ix4 y⟩
  refine (Cert.ReferenceIdeal.Hand.result_apply V b k h w).trans (Eq.trans ?_ (Cert.KernelIdeal.Hand.resBuf_apply c XA b k h w).symm)
  exact congrArg (fun X : Cert.Maths.Image => Cert.Maths.val X k h w) (funext fun k => funext fun h => funext fun w => congrFun hV (ix4 b k h w))

/-- From memories with one argument, the kernel and the reference terminate with equal results, as extended reals. -/
theorem algebraic : Cert.algebraic_KernelIdeal_ReferenceIdeal := by
  intro m g m' g' _ hm
  refine ⟨fun c => Cert.KernelIdeal.Hand.resBuf c (m ((c.tc : Thread Cert.KernelIdeal.nD Cert.KernelIdeal.τ).loc Cert.KernelIdeal.main_arg0)), ?_, ?_⟩
  · exact (θ_run Cert.KernelIdeal.defs _ _).mono (fun _ h c => ⟨(h.1 c).2, (h.1 c).1⟩) (Cert.KernelIdeal.Hand.run_main (F := Ideal) m g)
  · exact (θ_run Cert.ReferenceIdeal.defs _ _).mono (fun _ h c => ⟨(h c).1.trans (same_result c _ (launchContents m' c) (hm c)), (h c).2⟩)
      (Cert.ReferenceIdeal.Hand.run_result m' g')

end Cert.Proof

end
-- ==== Proof.lean ====
/-
  The claim, assembled: the frames and the named constant (Proof/Frames), and the equation (Proof/Equation).
-/
module

public import proofs.«01_k».proof.Defs
public import proofs.«01_k».proof.Proof.Frames
public import proofs.«01_k».proof.Proof.Equation

@[expose] public section

noncomputable section

/-- Everything this proof claims. -/
theorem Cert.Proof.claim : Cert.Claim :=
  ⟨Cert.Kernel.Gen.facts, Cert.KernelIdeal.Gen.facts, Cert.ReferenceIdeal.Gen.facts,
    Cert.Proof.frame_kernel, Cert.Proof.frame_kernelIdeal, Cert.Proof.frame_referenceIdeal, Cert.Proof.preserves, Cert.Proof.algebraic⟩

end
